-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v413) = v0 c
          ∧ r.2.mem ((c.tc : Thread Cert.ReferenceIdeal.nD Cert.ReferenceIdeal.τ).loc Cert.ReferenceIdeal.main_v417) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x768 : Shape := ⟨2, ![2048, 768]⟩
abbrev S2x768 : Shape := ⟨2, ![2, 768]⟩
abbrev S1 : Shape := ⟨1, ![1]⟩
abbrev S3x768x2304 : Shape := ⟨3, ![3, 768, 2304]⟩
abbrev S3x768 : Shape := ⟨2, ![3, 768]⟩
abbrev S768x768 : Shape := ⟨2, ![768, 768]⟩
abbrev S768 : Shape := ⟨1, ![768]⟩
abbrev S3x2304x768 : Shape := ⟨3, ![3, 2304, 768]⟩
abbrev S3x2304 : Shape := ⟨2, ![3, 2304]⟩
abbrev S2x768x1536 : Shape := ⟨3, ![2, 768, 1536]⟩
abbrev S2x768x768 : Shape := ⟨3, ![2, 768, 768]⟩
abbrev S2x1x768 : Shape := ⟨3, ![2, 1, 768]⟩
abbrev S1x768 : Shape := ⟨2, ![1, 768]⟩
abbrev S3x1x768 : Shape := ⟨3, ![3, 1, 768]⟩
abbrev S3x1x2304 : Shape := ⟨3, ![3, 1, 2304]⟩
abbrev S1x1 : Shape := ⟨2, ![1, 1]⟩
abbrev S_ : Shape := ⟨0, ![]⟩
abbrev S2048x1 : Shape := ⟨2, ![2048, 1]⟩
abbrev S256x768 : Shape := ⟨2, ![256, 768]⟩
abbrev S256x1 : Shape := ⟨2, ![256, 1]⟩
abbrev S1x1x768 : Shape := ⟨3, ![1, 1, 768]⟩
abbrev S1x768x1536 : Shape := ⟨3, ![1, 768, 1536]⟩
abbrev S1x768x768 : Shape := ⟨3, ![1, 768, 768]⟩
abbrev S1x768x2304 : Shape := ⟨3, ![1, 768, 2304]⟩
abbrev S1x2304x768 : Shape := ⟨3, ![1, 2304, 768]⟩
abbrev S1x1x2304 : Shape := ⟨3, ![1, 1, 2304]⟩
abbrev S256x1536 : Shape := ⟨2, ![256, 1536]⟩
abbrev S768x1536 : Shape := ⟨2, ![768, 1536]⟩
abbrev S256x2304 : Shape := ⟨2, ![256, 2304]⟩
abbrev S768x2304 : Shape := ⟨2, ![768, 2304]⟩
abbrev S2304x768 : Shape := ⟨2, ![2304, 768]⟩
abbrev S1x2304 : Shape := ⟨2, ![1, 2304]⟩
abbrev S256 : Shape := ⟨1, ![256]⟩
abbrev S2048 : Shape := ⟨1, ![2048]⟩

abbrev nBuf : Space → Nat
  | .hbm => 43
  | .vmem => 64
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2x768, .f32⟩
  | .hbm, ⟨3, _⟩ => ⟨S1, .f32⟩
  | .hbm, ⟨4, _⟩ => ⟨S3x768x2304, .f32⟩
  | .hbm, ⟨5, _⟩ => ⟨S3x768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768x768, .f32⟩
  | .hbm, ⟨11, _⟩ => ⟨S768, .f32⟩
  | .hbm, ⟨12, _⟩ => ⟨S3x2304x768, .f32⟩
  | .hbm, ⟨13, _⟩ => ⟨S3x2304, .f32⟩
  | .hbm, ⟨14, _⟩ => ⟨S2x768x1536, .f32⟩
  | .hbm, ⟨15, _⟩ => ⟨S2x768, .f32⟩
  | .hbm, ⟨16, _⟩ => ⟨S768x768, .f32⟩
  | .hbm, ⟨17, _⟩ => ⟨S768, .f32⟩
  | .hbm, ⟨18, _⟩ => ⟨S768x768, .f32⟩
  | .hbm, ⟨19, _⟩ => ⟨S768, .f32⟩
  | .hbm, ⟨20, _⟩ => ⟨S768x768, .f32⟩
  | .hbm, ⟨21, _⟩ => ⟨S768, .f32⟩
  | .hbm, ⟨22, _⟩ => ⟨S2x768x768, .f32⟩
  | .hbm, ⟨23, _⟩ => ⟨S2x768, .f32⟩
  | .hbm, ⟨24, _⟩ => ⟨S2x1x768, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S2x1x768, .f32⟩
  | .hbm, ⟨29, _⟩ => ⟨S3x1x768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S3x1x2304, .f32⟩
  | .hbm, ⟨34, _⟩ => ⟨S1x1, .f32⟩
  | .hbm, ⟨35, _⟩ => ⟨S2x1x768, .f32⟩
  | .hbm, ⟨36, _⟩ => ⟨S_, .f32⟩
  | .hbm, ⟨37, _⟩ => ⟨S2048x1, .f32⟩
  | .hbm, ⟨38, _⟩ => ⟨S2048x768, .f32⟩
  | .hbm, ⟨39, _⟩ => ⟨S2048x1, .f32⟩
  | .hbm, ⟨40, _⟩ => ⟨S2048x768, .f32⟩
  | .hbm, ⟨41, _⟩ => ⟨S2048x1, .f32⟩
  | .hbm, ⟨42, _⟩ => ⟨S2048, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x1, .f32⟩
  | .local _ .vmem, ⟨5, _⟩ => ⟨S256x1, .f32⟩
  | .local _ .vmem, ⟨6, _⟩ => ⟨S1x1, .f32⟩
  | .local _ .vmem, ⟨7, _⟩ => ⟨S1x1x768, .f32⟩
  | .local _ .vmem, ⟨8, _⟩ => ⟨S1x768x1536, .f32⟩
  | .local _ .vmem, ⟨9, _⟩ => ⟨S1x1x768, .f32⟩
  | .local _ .vmem, ⟨10, _⟩ => ⟨S768x768, .f32⟩
  | .local _ .vmem, ⟨11, _⟩ => ⟨S1x768, .f32⟩
  | .local _ .vmem, ⟨12, _⟩ => ⟨S768x768, .f32⟩
  | .local _ .vmem, ⟨13, _⟩ => ⟨S1x768, .f32⟩
  | .local _ .vmem, ⟨14, _⟩ => ⟨S768x768, .f32⟩
  | .local _ .vmem, ⟨15, _⟩ => ⟨S1x768, .f32⟩
  | .local _ .vmem, ⟨16, _⟩ => ⟨S1x768x768, .f32⟩
  | .local _ .vmem, ⟨17, _⟩ => ⟨S1x1x768, .f32⟩
  | .local _ .vmem, ⟨18, _⟩ => ⟨S1x768x2304, .f32⟩
  | .local _ .vmem, ⟨19, _⟩ => ⟨S1x1x768, .f32⟩
  | .local _ .vmem, ⟨20, _⟩ => ⟨S768x768, .f32⟩
  | .local _ .vmem, ⟨21, _⟩ => ⟨S1x768, .f32⟩
  | .local _ .vmem, ⟨22, _⟩ => ⟨S768x768, .f32⟩
  | .local _ .vmem, ⟨23, _⟩ => ⟨S1x768, .f32⟩
  | .local _ .vmem, ⟨24, _⟩ => ⟨S768x768, .f32⟩
  | .local _ .vmem, ⟨25, _⟩ => ⟨S1x768, .f32⟩
  | .local _ .vmem, ⟨26, _⟩ => ⟨S1x2304x768, .f32⟩
  | .local _ .vmem, ⟨27, _⟩ => ⟨S1x1x2304, .f32⟩
  | .local _ .vmem, ⟨28, _⟩ => ⟨S256x768, .f32⟩
  | .local _ .vmem, ⟨29, _⟩ => ⟨S256x768, .f32⟩
  | .local _ .vmem, ⟨30, _⟩ => ⟨S256x1, .f32⟩
  | .local _ .vmem, ⟨31, _⟩ => ⟨S256x1, .f32⟩
  | .local _ .vmem, ⟨32, _⟩ => ⟨S256x768, .f32⟩
  | .local _ .vmem, ⟨33, _⟩ => ⟨S256x768, .f32⟩
  | .local _ .vmem, ⟨34, _⟩ => ⟨S256x768, .f32⟩
  | .local _ .vmem, ⟨35, _⟩ => ⟨S256x768, .f32⟩
  | .local _ .vmem, ⟨36, _⟩ => ⟨S256x1, .f32⟩
  | .local _ .vmem, ⟨37, _⟩ => ⟨S256x1, .f32⟩
  | .local _ .vmem, ⟨38, _⟩ => ⟨S1x1, .f32⟩
  | .local _ .vmem, ⟨39, _⟩ => ⟨S1x1x768, .f32⟩
  | .local _ .vmem, ⟨40, _⟩ => ⟨S1x768x1536, .f32⟩
  | .local _ .vmem, ⟨41, _⟩ => ⟨S1x1x768, .f32⟩
  | .local _ .vmem, ⟨42, _⟩ => ⟨S768x768, .f32⟩
  | .local _ .vmem, ⟨43, _⟩ => ⟨S1x768, .f32⟩
  | .local _ .vmem, ⟨44, _⟩ => ⟨S768x768, .f32⟩
  | .local _ .vmem, ⟨45, _⟩ => ⟨S1x768, .f32⟩
  | .local _ .vmem, ⟨46, _⟩ => ⟨S768x768, .f32⟩
  | .local _ .vmem, ⟨47, _⟩ => ⟨S1x768, .f32⟩
  | .local _ .vmem, ⟨48, _⟩ => ⟨S1x768x768, .f32⟩
  | .local _ .vmem, ⟨49, _⟩ => ⟨S1x1x768, .f32⟩
  | .local _ .vmem, ⟨50, _⟩ => ⟨S1x768x2304, .f32⟩
  | .local _ .vmem, ⟨51, _⟩ => ⟨S1x1x768, .f32⟩
  | .local _ .vmem, ⟨52, _⟩ => ⟨S768x768, .f32⟩
  | .local _ .vmem, ⟨53, _⟩ => ⟨S1x768, .f32⟩
  | .local _ .vmem, ⟨54, _⟩ => ⟨S768x768, .f32⟩
  | .local _ .vmem, ⟨55, _⟩ => ⟨S1x768, .f32⟩
  | .local _ .vmem, ⟨56, _⟩ => ⟨S768x768, .f32⟩
  | .local _ .vmem, ⟨57, _⟩ => ⟨S1x768, .f32⟩
  | .local _ .vmem, ⟨58, _⟩ => ⟨S1x2304x768, .f32⟩
  | .local _ .vmem, ⟨59, _⟩ => ⟨S1x1x2304, .f32⟩
  | .local _ .vmem, ⟨60, _⟩ => ⟨S256x768, .f32⟩
  | .local _ .vmem, ⟨61, _⟩ => ⟨S256x768, .f32⟩
  | .local _ .vmem, ⟨62, _⟩ => ⟨S256x1, .f32⟩
  | .local _ .vmem, ⟨63, _⟩ => ⟨S256x1, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13_0 : Ref sig .tc := ⟨.hbm, 38, rfl⟩
abbrev main_v13_1 : Ref sig .tc := ⟨.hbm, 39, rfl⟩
abbrev main_v14_0 : Ref sig .tc := ⟨.hbm, 40, rfl⟩
abbrev main_v14_1 : Ref sig .tc := ⟨.hbm, 41, rfl⟩
abbrev main_v15 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_stg26_1 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg4_0 : Ref sig .tc := ⟨.vmem, 39, rfl⟩
abbrev cc1_stg5_0 : Ref sig .tc := ⟨.vmem, 40, rfl⟩
abbrev cc1_stg6_0 : Ref sig .tc := ⟨.vmem, 41, rfl⟩
abbrev cc1_stg7_0 : Ref sig .tc := ⟨.vmem, 42, rfl⟩
abbrev cc1_stg8_0 : Ref sig .tc := ⟨.vmem, 43, rfl⟩
abbrev cc1_stg9_0 : Ref sig .tc := ⟨.vmem, 44, rfl⟩
abbrev cc1_stg10_0 : Ref sig .tc := ⟨.vmem, 45, rfl⟩
abbrev cc1_stg11_0 : Ref sig .tc := ⟨.vmem, 46, rfl⟩
abbrev cc1_stg12_0 : Ref sig .tc := ⟨.vmem, 47, rfl⟩
abbrev cc1_stg13_0 : Ref sig .tc := ⟨.vmem, 48, rfl⟩
abbrev cc1_stg14_0 : Ref sig .tc := ⟨.vmem, 49, rfl⟩
abbrev cc1_stg15_0 : Ref sig .tc := ⟨.vmem, 50, rfl⟩
abbrev cc1_stg16_0 : Ref sig .tc := ⟨.vmem, 51, rfl⟩
abbrev cc1_stg17_0 : Ref sig .tc := ⟨.vmem, 52, rfl⟩
abbrev cc1_stg18_0 : Ref sig .tc := ⟨.vmem, 53, rfl⟩
abbrev cc1_stg19_0 : Ref sig .tc := ⟨.vmem, 54, rfl⟩
abbrev cc1_stg20_0 : Ref sig .tc := ⟨.vmem, 55, rfl⟩
abbrev cc1_stg21_0 : Ref sig .tc := ⟨.vmem, 56, rfl⟩
abbrev cc1_stg22_0 : Ref sig .tc := ⟨.vmem, 57, rfl⟩
abbrev cc1_stg23_0 : Ref sig .tc := ⟨.vmem, 58, rfl⟩
abbrev cc1_stg24_0 : Ref sig .tc := ⟨.vmem, 59, rfl⟩
abbrev cc1_stg25_0 : Ref sig .tc := ⟨.vmem, 60, rfl⟩
abbrev cc1_stg25_1 : Ref sig .tc := ⟨.vmem, 61, rfl⟩
abbrev cc1_stg26_0 : Ref sig .tc := ⟨.vmem, 62, rfl⟩
abbrev cc1_stg26_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29
abbrev cc0_sem26_0 : DmaSem sig := 30
abbrev cc0_sem26_1 : DmaSem sig := 31
abbrev cc1_sem0_0 : DmaSem sig := 32
abbrev cc1_sem0_1 : DmaSem sig := 33
abbrev cc1_sem1_0 : DmaSem sig := 34
abbrev cc1_sem1_1 : DmaSem sig := 35
abbrev cc1_sem2_0 : DmaSem sig := 36
abbrev cc1_sem2_1 : DmaSem sig := 37
abbrev cc1_sem3_0 : DmaSem sig := 38
abbrev cc1_sem4_0 : DmaSem sig := 39
abbrev cc1_sem5_0 : DmaSem sig := 40
abbrev cc1_sem6_0 : DmaSem sig := 41
abbrev cc1_sem7_0 : DmaSem sig := 42
abbrev cc1_sem8_0 : DmaSem sig := 43
abbrev cc1_sem9_0 : DmaSem sig := 44
abbrev cc1_sem10_0 : DmaSem sig := 45
abbrev cc1_sem11_0 : DmaSem sig := 46
abbrev cc1_sem12_0 : DmaSem sig := 47
abbrev cc1_sem13_0 : DmaSem sig := 48
abbrev cc1_sem14_0 : DmaSem sig := 49
abbrev cc1_sem15_0 : DmaSem sig := 50
abbrev cc1_sem16_0 : DmaSem sig := 51
abbrev cc1_sem17_0 : DmaSem sig := 52
abbrev cc1_sem18_0 : DmaSem sig := 53
abbrev cc1_sem19_0 : DmaSem sig := 54
abbrev cc1_sem20_0 : DmaSem sig := 55
abbrev cc1_sem21_0 : DmaSem sig := 56
abbrev cc1_sem22_0 : DmaSem sig := 57
abbrev cc1_sem23_0 : DmaSem sig := 58
abbrev cc1_sem24_0 : DmaSem sig := 59
abbrev cc1_sem25_0 : DmaSem sig := 60
abbrev cc1_sem25_1 : DmaSem sig := 61
abbrev cc1_sem26_0 : DmaSem sig := 62
abbrev cc1_sem26_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768x2304 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S768x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S768x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S768x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x2304x768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1x2304 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S256x768 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_14 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_15 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_16 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_24 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_26 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S768x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S768x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S768x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x768 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x768x768 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1x768 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x768x2304 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1x768 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S768x768 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x768 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S768x768 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x768 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S768x768 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x768 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x2304x768 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x1x2304 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 2 → Memref sig .tc .vmem S256x768 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S256x1 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]
-- ==== ReferenceIdeal.lean ====
abbrev S2048x768 : Shape := ⟨2, ![2048, 768]⟩
abbrev S2x768 : Shape := ⟨2, ![2, 768]⟩
abbrev S1 : Shape := ⟨1, ![1]⟩
abbrev S3x768x2304 : Shape := ⟨3, ![3, 768, 2304]⟩
abbrev S3x768 : Shape := ⟨2, ![3, 768]⟩
abbrev S768x768 : Shape := ⟨2, ![768, 768]⟩
abbrev S768 : Shape := ⟨1, ![768]⟩
abbrev S3x2304x768 : Shape := ⟨3, ![3, 2304, 768]⟩
abbrev S3x2304 : Shape := ⟨2, ![3, 2304]⟩
abbrev S2x768x1536 : Shape := ⟨3, ![2, 768, 1536]⟩
abbrev S2x768x768 : Shape := ⟨3, ![2, 768, 768]⟩
abbrev S_ : Shape := ⟨0, ![]⟩
abbrev S2048 : Shape := ⟨1, ![2048]⟩
abbrev S1x768 : Shape := ⟨2, ![1, 768]⟩
abbrev S2048x1536 : Shape := ⟨2, ![2048, 1536]⟩
abbrev S1x768x1536 : Shape := ⟨3, ![1, 768, 1536]⟩
abbrev S768x1536 : Shape := ⟨2, ![768, 1536]⟩
abbrev S1536x768 : Shape := ⟨2, ![1536, 768]⟩
abbrev S1x768x768 : Shape := ⟨3, ![1, 768, 768]⟩
abbrev S2048x2304 : Shape := ⟨2, ![2048, 2304]⟩
abbrev S1x768x2304 : Shape := ⟨3, ![1, 768, 2304]⟩
abbrev S768x2304 : Shape := ⟨2, ![768, 2304]⟩
abbrev S2304x768 : Shape := ⟨2, ![2304, 768]⟩
abbrev S1x2304x768 : Shape := ⟨3, ![1, 2304, 768]⟩
abbrev S1x2304 : Shape := ⟨2, ![1, 2304]⟩
abbrev S2304 : Shape := ⟨1, ![2304]⟩
abbrev S1x1 : Shape := ⟨2, ![1, 1]⟩

abbrev nBuf : Space → Nat
  | .hbm => 506
  | .vmem => 0
  | .smem => 0
  | _ => 0

abbrev hbmTy0_0 (i : Nat) : BufTy := match i % 128 with
  | 0 => ⟨S2048x768, .f32⟩
  | 1 => ⟨S2048x768, .f32⟩
  | 2 => ⟨S2x768, .f32⟩
  | 3 => ⟨S1, .f32⟩
  | 4 => ⟨S3x768x2304, .f32⟩
  | 5 => ⟨S3x768, .f32⟩
  | 6 => ⟨S768x768, .f32⟩
  | 7 => ⟨S768, .f32⟩
  | 8 => ⟨S768x768, .f32⟩
  | 9 => ⟨S768, .f32⟩
  | 10 => ⟨S768x768, .f32⟩
  | 11 => ⟨S768, .f32⟩
  | 12 => ⟨S3x2304x768, .f32⟩
  | 13 => ⟨S3x2304, .f32⟩
  | 14 => ⟨S2x768x1536, .f32⟩
  | 15 => ⟨S2x768, .f32⟩
  | 16 => ⟨S768x768, .f32⟩
  | 17 => ⟨S768, .f32⟩
  | 18 => ⟨S768x768, .f32⟩
  | 19 => ⟨S768, .f32⟩
  | 20 => ⟨S768x768, .f32⟩
  | 21 => ⟨S768, .f32⟩
  | 22 => ⟨S2x768x768, .f32⟩
  | 23 => ⟨S2x768, .f32⟩
  | 24 => ⟨S1, .f32⟩
  | 25 => ⟨S_, .f32⟩
  | 26 => ⟨S1, .f32⟩
  | 27 => ⟨S1, .f32⟩
  | 28 => ⟨S_, .f32⟩
  | 29 => ⟨S2048, .f32⟩
  | 30 => ⟨S1x768, .f32⟩
  | 31 => ⟨S768, .f32⟩
  | 32 => ⟨S1x768, .f32⟩
  | 33 => ⟨S_, .f32⟩
  | 34 => ⟨S1x768, .f32⟩
  | 35 => ⟨S1x768, .f32⟩
  | 36 => ⟨S2048x768, .f32⟩
  | 37 => ⟨S2048x768, .f32⟩
  | 38 => ⟨S2048x1536, .f32⟩
  | 39 => ⟨S1x768x1536, .f32⟩
  | 40 => ⟨S768x1536, .f32⟩
  | 41 => ⟨S1536x768, .f32⟩
  | 42 => ⟨S2048x768, .f32⟩
  | 43 => ⟨S1x768, .f32⟩
  | 44 => ⟨S768, .f32⟩
  | 45 => ⟨S1x768, .f32⟩
  | 46 => ⟨S2048x768, .f32⟩
  | 47 => ⟨S2048x768, .f32⟩
  | 48 => ⟨S_, .f32⟩
  | 49 => ⟨S2048x768, .f32⟩
  | 50 => ⟨S2048x768, .f32⟩
  | 51 => ⟨S768x768, .f32⟩
  | 52 => ⟨S2048x768, .f32⟩
  | 53 => ⟨S1x768, .f32⟩
  | 54 => ⟨S2048x768, .f32⟩
  | 55 => ⟨S2048x768, .f32⟩
  | 56 => ⟨S_, .f32⟩
  | 57 => ⟨S2048x768, .f32⟩
  | 58 => ⟨S2048x768, .f32⟩
  | 59 => ⟨S768x768, .f32⟩
  | 60 => ⟨S2048x768, .f32⟩
  | 61 => ⟨S1x768, .f32⟩
  | 62 => ⟨S2048x768, .f32⟩
  | 63 => ⟨S2048x768, .f32⟩
  | 64 => ⟨S_, .f32⟩
  | 65 => ⟨S2048x768, .f32⟩
  | 66 => ⟨S2048x768, .f32⟩
  | 67 => ⟨S768x768, .f32⟩
  | 68 => ⟨S2048x768, .f32⟩
  | 69 => ⟨S1x768, .f32⟩
  | 70 => ⟨S2048x768, .f32⟩
  | 71 => ⟨S2048x768, .f32⟩
  | 72 => ⟨S_, .f32⟩
  | 73 => ⟨S2048x768, .f32⟩
  | 74 => ⟨S2048x768, .f32⟩
  | 75 => ⟨S1x768x768, .f32⟩
  | 76 => ⟨S768x768, .f32⟩
  | 77 => ⟨S768x768, .f32⟩
  | 78 => ⟨S2048x768, .f32⟩
  | 79 => ⟨S1x768, .f32⟩
  | 80 => ⟨S768, .f32⟩
  | 81 => ⟨S1x768, .f32⟩
  | 82 => ⟨S2048x768, .f32⟩
  | 83 => ⟨S2048x768, .f32⟩
  | 84 => ⟨S2048x768, .f32⟩
  | 85 => ⟨S2048x768, .f32⟩
  | 86 => ⟨S2048x2304, .f32⟩
  | 87 => ⟨S1x768x2304, .f32⟩
  | 88 => ⟨S768x2304, .f32⟩
  | 89 => ⟨S2304x768, .f32⟩
  | 90 => ⟨S2048x768, .f32⟩
  | 91 => ⟨S1x768, .f32⟩
  | 92 => ⟨S768, .f32⟩
  | 93 => ⟨S1x768, .f32⟩
  | 94 => ⟨S2048x768, .f32⟩
  | 95 => ⟨S2048x768, .f32⟩
  | 96 => ⟨S_, .f32⟩
  | 97 => ⟨S2048x768, .f32⟩
  | 98 => ⟨S2048x768, .f32⟩
  | 99 => ⟨S768x768, .f32⟩
  | 100 => ⟨S2048x768, .f32⟩
  | 101 => ⟨S1x768, .f32⟩
  | 102 => ⟨S2048x768, .f32⟩
  | 103 => ⟨S2048x768, .f32⟩
  | 104 => ⟨S_, .f32⟩
  | 105 => ⟨S2048x768, .f32⟩
  | 106 => ⟨S2048x768, .f32⟩
  | 107 => ⟨S768x768, .f32⟩
  | 108 => ⟨S2048x768, .f32⟩
  | 109 => ⟨S1x768, .f32⟩
  | 110 => ⟨S2048x768, .f32⟩
  | 111 => ⟨S2048x768, .f32⟩
  | 112 => ⟨S_, .f32⟩
  | 113 => ⟨S2048x768, .f32⟩
  | 114 => ⟨S2048x768, .f32⟩
  | 115 => ⟨S768x768, .f32⟩
  | 116 => ⟨S2048x768, .f32⟩
  | 117 => ⟨S1x768, .f32⟩
  | 118 => ⟨S2048x768, .f32⟩
  | 119 => ⟨S2048x768, .f32⟩
  | 120 => ⟨S2048x768, .f32⟩
  | 121 => ⟨S1x2304x768, .f32⟩
  | 122 => ⟨S2304x768, .f32⟩
  | 123 => ⟨S768x2304, .f32⟩
  | 124 => ⟨S2048x2304, .f32⟩
  | 125 => ⟨S1x2304, .f32⟩
  | 126 => ⟨S2304, .f32⟩
  | 127 => ⟨S1x2304, .f32⟩
  | _ => ⟨S2048x768, .f32⟩

abbrev hbmTy0_1 (i : Nat) : BufTy := match i % 128 with
  | 0 => ⟨S2048x2304, .f32⟩
  | 1 => ⟨S2048x2304, .f32⟩
  | 2 => ⟨S2048x768, .f32⟩
  | 3 => ⟨S2048x768, .f32⟩
  | 4 => ⟨S2048x768, .f32⟩
  | 5 => ⟨S2048x768, .f32⟩
  | 6 => ⟨S2048x768, .f32⟩
  | 7 => ⟨S2048x768, .f32⟩
  | 8 => ⟨S2048x768, .f32⟩
  | 9 => ⟨S2048x768, .f32⟩
  | 10 => ⟨S2048x768, .f32⟩
  | 11 => ⟨S2048x768, .f32⟩
  | 12 => ⟨S1x1, .f32⟩
  | 13 => ⟨S2048x768, .f32⟩
  | 14 => ⟨S2048x768, .f32⟩
  | 15 => ⟨S2048x768, .f32⟩
  | 16 => ⟨S2048x768, .f32⟩
  | 17 => ⟨S2048x768, .f32⟩
  | 18 => ⟨S2048x768, .f32⟩
  | 19 => ⟨S2048x768, .f32⟩
  | 20 => ⟨S2048x768, .f32⟩
  | 21 => ⟨S_, .f32⟩
  | 22 => ⟨S2048, .f32⟩
  | 23 => ⟨S2048, .f32⟩
  | 24 => ⟨S2048x768, .f32⟩
  | 25 => ⟨S2048x768, .f32⟩
  | 26 => ⟨S2048x1536, .f32⟩
  | 27 => ⟨S1x768x1536, .f32⟩
  | 28 => ⟨S768x1536, .f32⟩
  | 29 => ⟨S1536x768, .f32⟩
  | 30 => ⟨S2048x768, .f32⟩
  | 31 => ⟨S1x768, .f32⟩
  | 32 => ⟨S768, .f32⟩
  | 33 => ⟨S1x768, .f32⟩
  | 34 => ⟨S2048x768, .f32⟩
  | 35 => ⟨S2048x768, .f32⟩
  | 36 => ⟨S_, .f32⟩
  | 37 => ⟨S2048x768, .f32⟩
  | 38 => ⟨S2048x768, .f32⟩
  | 39 => ⟨S768x768, .f32⟩
  | 40 => ⟨S2048x768, .f32⟩
  | 41 => ⟨S1x768, .f32⟩
  | 42 => ⟨S2048x768, .f32⟩
  | 43 => ⟨S2048x768, .f32⟩
  | 44 => ⟨S_, .f32⟩
  | 45 => ⟨S2048x768, .f32⟩
  | 46 => ⟨S2048x768, .f32⟩
  | 47 => ⟨S768x768, .f32⟩
  | 48 => ⟨S2048x768, .f32⟩
  | 49 => ⟨S1x768, .f32⟩
  | 50 => ⟨S2048x768, .f32⟩
  | 51 => ⟨S2048x768, .f32⟩
  | 52 => ⟨S_, .f32⟩
  | 53 => ⟨S2048x768, .f32⟩
  | 54 => ⟨S2048x768, .f32⟩
  | 55 => ⟨S768x768, .f32⟩
  | 56 => ⟨S2048x768, .f32⟩
  | 57 => ⟨S1x768, .f32⟩
  | 58 => ⟨S2048x768, .f32⟩
  | 59 => ⟨S2048x768, .f32⟩
  | 60 => ⟨S_, .f32⟩
  | 61 => ⟨S2048x768, .f32⟩
  | 62 => ⟨S2048x768, .f32⟩
  | 63 => ⟨S1x768x768, .f32⟩
  | 64 => ⟨S768x768, .f32⟩
  | 65 => ⟨S768x768, .f32⟩
  | 66 => ⟨S2048x768, .f32⟩
  | 67 => ⟨S1x768, .f32⟩
  | 68 => ⟨S768, .f32⟩
  | 69 => ⟨S1x768, .f32⟩
  | 70 => ⟨S2048x768, .f32⟩
  | 71 => ⟨S2048x768, .f32⟩
  | 72 => ⟨S2048x768, .f32⟩
  | 73 => ⟨S2048x768, .f32⟩
  | 74 => ⟨S2048x2304, .f32⟩
  | 75 => ⟨S1x768x2304, .f32⟩
  | 76 => ⟨S768x2304, .f32⟩
  | 77 => ⟨S2304x768, .f32⟩
  | 78 => ⟨S2048x768, .f32⟩
  | 79 => ⟨S1x768, .f32⟩
  | 80 => ⟨S768, .f32⟩
  | 81 => ⟨S1x768, .f32⟩
  | 82 => ⟨S2048x768, .f32⟩
  | 83 => ⟨S2048x768, .f32⟩
  | 84 => ⟨S_, .f32⟩
  | 85 => ⟨S2048x768, .f32⟩
  | 86 => ⟨S2048x768, .f32⟩
  | 87 => ⟨S768x768, .f32⟩
  | 88 => ⟨S2048x768, .f32⟩
  | 89 => ⟨S1x768, .f32⟩
  | 90 => ⟨S2048x768, .f32⟩
  | 91 => ⟨S2048x768, .f32⟩
  | 92 => ⟨S_, .f32⟩
  | 93 => ⟨S2048x768, .f32⟩
  | 94 => ⟨S2048x768, .f32⟩
  | 95 => ⟨S768x768, .f32⟩
  | 96 => ⟨S2048x768, .f32⟩
  | 97 => ⟨S1x768, .f32⟩
  | 98 => ⟨S2048x768, .f32⟩
  | 99 => ⟨S2048x768, .f32⟩
  | 100 => ⟨S_, .f32⟩
  | 101 => ⟨S2048x768, .f32⟩
  | 102 => ⟨S2048x768, .f32⟩
  | 103 => ⟨S768x768, .f32⟩
  | 104 => ⟨S2048x768, .f32⟩
  | 105 => ⟨S1x768, .f32⟩
  | 106 => ⟨S2048x768, .f32⟩
  | 107 => ⟨S2048x768, .f32⟩
  | 108 => ⟨S2048x768, .f32⟩
  | 109 => ⟨S1x2304x768, .f32⟩
  | 110 => ⟨S2304x768, .f32⟩
  | 111 => ⟨S768x2304, .f32⟩
  | 112 => ⟨S2048x2304, .f32⟩
  | 113 => ⟨S1x2304, .f32⟩
  | 114 => ⟨S2304, .f32⟩
  | 115 => ⟨S1x2304, .f32⟩
  | 116 => ⟨S2048x2304, .f32⟩
  | 117 => ⟨S2048x2304, .f32⟩
  | 118 => ⟨S2048x768, .f32⟩
  | 119 => ⟨S2048x768, .f32⟩
  | 120 => ⟨S2048x768, .f32⟩
  | 121 => ⟨S2048x768, .f32⟩
  | 122 => ⟨S2048x768, .f32⟩
  | 123 => ⟨S2048x768, .f32⟩
  | 124 => ⟨S2048x768, .f32⟩
  | 125 => ⟨S2048x768, .f32⟩
  | 126 => ⟨S2048x768, .f32⟩
  | 127 => ⟨S2048x768, .f32⟩
  | _ => ⟨S2048x768, .f32⟩

abbrev hbmTy0_2 (i : Nat) : BufTy := match i % 128 with
  | 0 => ⟨S1x1, .f32⟩
  | 1 => ⟨S2048x768, .f32⟩
  | 2 => ⟨S2048x768, .f32⟩
  | 3 => ⟨S2048x768, .f32⟩
  | 4 => ⟨S2048x768, .f32⟩
  | 5 => ⟨S2048x768, .f32⟩
  | 6 => ⟨S2048x768, .f32⟩
  | 7 => ⟨S2048x768, .f32⟩
  | 8 => ⟨S2048x768, .f32⟩
  | 9 => ⟨S_, .f32⟩
  | 10 => ⟨S2048, .f32⟩
  | 11 => ⟨S2048, .f32⟩
  | 12 => ⟨S1x768, .f32⟩
  | 13 => ⟨S768, .f32⟩
  | 14 => ⟨S1x768, .f32⟩
  | 15 => ⟨S_, .f32⟩
  | 16 => ⟨S1x768, .f32⟩
  | 17 => ⟨S1x768, .f32⟩
  | 18 => ⟨S2048x768, .f32⟩
  | 19 => ⟨S2048x768, .f32⟩
  | 20 => ⟨S2048x1536, .f32⟩
  | 21 => ⟨S1x768x1536, .f32⟩
  | 22 => ⟨S768x1536, .f32⟩
  | 23 => ⟨S1536x768, .f32⟩
  | 24 => ⟨S2048x768, .f32⟩
  | 25 => ⟨S1x768, .f32⟩
  | 26 => ⟨S768, .f32⟩
  | 27 => ⟨S1x768, .f32⟩
  | 28 => ⟨S2048x768, .f32⟩
  | 29 => ⟨S2048x768, .f32⟩
  | 30 => ⟨S_, .f32⟩
  | 31 => ⟨S2048x768, .f32⟩
  | 32 => ⟨S2048x768, .f32⟩
  | 33 => ⟨S768x768, .f32⟩
  | 34 => ⟨S2048x768, .f32⟩
  | 35 => ⟨S1x768, .f32⟩
  | 36 => ⟨S2048x768, .f32⟩
  | 37 => ⟨S2048x768, .f32⟩
  | 38 => ⟨S_, .f32⟩
  | 39 => ⟨S2048x768, .f32⟩
  | 40 => ⟨S2048x768, .f32⟩
  | 41 => ⟨S768x768, .f32⟩
  | 42 => ⟨S2048x768, .f32⟩
  | 43 => ⟨S1x768, .f32⟩
  | 44 => ⟨S2048x768, .f32⟩
  | 45 => ⟨S2048x768, .f32⟩
  | 46 => ⟨S_, .f32⟩
  | 47 => ⟨S2048x768, .f32⟩
  | 48 => ⟨S2048x768, .f32⟩
  | 49 => ⟨S768x768, .f32⟩
  | 50 => ⟨S2048x768, .f32⟩
  | 51 => ⟨S1x768, .f32⟩
  | 52 => ⟨S2048x768, .f32⟩
  | 53 => ⟨S2048x768, .f32⟩
  | 54 => ⟨S_, .f32⟩
  | 55 => ⟨S2048x768, .f32⟩
  | 56 => ⟨S2048x768, .f32⟩
  | 57 => ⟨S1x768x768, .f32⟩
  | 58 => ⟨S768x768, .f32⟩
  | 59 => ⟨S768x768, .f32⟩
  | 60 => ⟨S2048x768, .f32⟩
  | 61 => ⟨S1x768, .f32⟩
  | 62 => ⟨S768, .f32⟩
  | 63 => ⟨S1x768, .f32⟩
  | 64 => ⟨S2048x768, .f32⟩
  | 65 => ⟨S2048x768, .f32⟩
  | 66 => ⟨S2048x768, .f32⟩
  | 67 => ⟨S2048x768, .f32⟩
  | 68 => ⟨S2048x2304, .f32⟩
  | 69 => ⟨S1x768x2304, .f32⟩
  | 70 => ⟨S768x2304, .f32⟩
  | 71 => ⟨S2304x768, .f32⟩
  | 72 => ⟨S2048x768, .f32⟩
  | 73 => ⟨S1x768, .f32⟩
  | 74 => ⟨S768, .f32⟩
  | 75 => ⟨S1x768, .f32⟩
  | 76 => ⟨S2048x768, .f32⟩
  | 77 => ⟨S2048x768, .f32⟩
  | 78 => ⟨S_, .f32⟩
  | 79 => ⟨S2048x768, .f32⟩
  | 80 => ⟨S2048x768, .f32⟩
  | 81 => ⟨S768x768, .f32⟩
  | 82 => ⟨S2048x768, .f32⟩
  | 83 => ⟨S1x768, .f32⟩
  | 84 => ⟨S2048x768, .f32⟩
  | 85 => ⟨S2048x768, .f32⟩
  | 86 => ⟨S_, .f32⟩
  | 87 => ⟨S2048x768, .f32⟩
  | 88 => ⟨S2048x768, .f32⟩
  | 89 => ⟨S768x768, .f32⟩
  | 90 => ⟨S2048x768, .f32⟩
  | 91 => ⟨S1x768, .f32⟩
  | 92 => ⟨S2048x768, .f32⟩
  | 93 => ⟨S2048x768, .f32⟩
  | 94 => ⟨S_, .f32⟩
  | 95 => ⟨S2048x768, .f32⟩
  | 96 => ⟨S2048x768, .f32⟩
  | 97 => ⟨S768x768, .f32⟩
  | 98 => ⟨S2048x768, .f32⟩
  | 99 => ⟨S1x768, .f32⟩
  | 100 => ⟨S2048x768, .f32⟩
  | 101 => ⟨S2048x768, .f32⟩
  | 102 => ⟨S2048x768, .f32⟩
  | 103 => ⟨S1x2304x768, .f32⟩
  | 104 => ⟨S2304x768, .f32⟩
  | 105 => ⟨S768x2304, .f32⟩
  | 106 => ⟨S2048x2304, .f32⟩
  | 107 => ⟨S1x2304, .f32⟩
  | 108 => ⟨S2304, .f32⟩
  | 109 => ⟨S1x2304, .f32⟩
  | 110 => ⟨S2048x2304, .f32⟩
  | 111 => ⟨S2048x2304, .f32⟩
  | 112 => ⟨S2048x768, .f32⟩
  | 113 => ⟨S2048x768, .f32⟩
  | 114 => ⟨S2048x768, .f32⟩
  | 115 => ⟨S2048x768, .f32⟩
  | 116 => ⟨S2048x768, .f32⟩
  | 117 => ⟨S2048x768, .f32⟩
  | 118 => ⟨S2048x768, .f32⟩
  | 119 => ⟨S2048x768, .f32⟩
  | 120 => ⟨S2048x768, .f32⟩
  | 121 => ⟨S2048x768, .f32⟩
  | 122 => ⟨S1x1, .f32⟩
  | 123 => ⟨S2048x768, .f32⟩
  | 124 => ⟨S2048x768, .f32⟩
  | 125 => ⟨S2048x768, .f32⟩
  | 126 => ⟨S2048x768, .f32⟩
  | 127 => ⟨S2048x768, .f32⟩
  | _ => ⟨S2048x768, .f32⟩

abbrev hbmTy0_3 (i : Nat) : BufTy := match i % 128 with
  | 0 => ⟨S2048x768, .f32⟩
  | 1 => ⟨S2048x768, .f32⟩
  | 2 => ⟨S2048x768, .f32⟩
  | 3 => ⟨S_, .f32⟩
  | 4 => ⟨S2048, .f32⟩
  | 5 => ⟨S2048, .f32⟩
  | 6 => ⟨S2048x768, .f32⟩
  | 7 => ⟨S2048x768, .f32⟩
  | 8 => ⟨S2048x1536, .f32⟩
  | 9 => ⟨S1x768x1536, .f32⟩
  | 10 => ⟨S768x1536, .f32⟩
  | 11 => ⟨S1536x768, .f32⟩
  | 12 => ⟨S2048x768, .f32⟩
  | 13 => ⟨S1x768, .f32⟩
  | 14 => ⟨S768, .f32⟩
  | 15 => ⟨S1x768, .f32⟩
  | 16 => ⟨S2048x768, .f32⟩
  | 17 => ⟨S2048x768, .f32⟩
  | 18 => ⟨S_, .f32⟩
  | 19 => ⟨S2048x768, .f32⟩
  | 20 => ⟨S2048x768, .f32⟩
  | 21 => ⟨S768x768, .f32⟩
  | 22 => ⟨S2048x768, .f32⟩
  | 23 => ⟨S1x768, .f32⟩
  | 24 => ⟨S2048x768, .f32⟩
  | 25 => ⟨S2048x768, .f32⟩
  | 26 => ⟨S_, .f32⟩
  | 27 => ⟨S2048x768, .f32⟩
  | 28 => ⟨S2048x768, .f32⟩
  | 29 => ⟨S768x768, .f32⟩
  | 30 => ⟨S2048x768, .f32⟩
  | 31 => ⟨S1x768, .f32⟩
  | 32 => ⟨S2048x768, .f32⟩
  | 33 => ⟨S2048x768, .f32⟩
  | 34 => ⟨S_, .f32⟩
  | 35 => ⟨S2048x768, .f32⟩
  | 36 => ⟨S2048x768, .f32⟩
  | 37 => ⟨S768x768, .f32⟩
  | 38 => ⟨S2048x768, .f32⟩
  | 39 => ⟨S1x768, .f32⟩
  | 40 => ⟨S2048x768, .f32⟩
  | 41 => ⟨S2048x768, .f32⟩
  | 42 => ⟨S_, .f32⟩
  | 43 => ⟨S2048x768, .f32⟩
  | 44 => ⟨S2048x768, .f32⟩
  | 45 => ⟨S1x768x768, .f32⟩
  | 46 => ⟨S768x768, .f32⟩
  | 47 => ⟨S768x768, .f32⟩
  | 48 => ⟨S2048x768, .f32⟩
  | 49 => ⟨S1x768, .f32⟩
  | 50 => ⟨S768, .f32⟩
  | 51 => ⟨S1x768, .f32⟩
  | 52 => ⟨S2048x768, .f32⟩
  | 53 => ⟨S2048x768, .f32⟩
  | 54 => ⟨S2048x768, .f32⟩
  | 55 => ⟨S2048x768, .f32⟩
  | 56 => ⟨S2048x2304, .f32⟩
  | 57 => ⟨S1x768x2304, .f32⟩
  | 58 => ⟨S768x2304, .f32⟩
  | 59 => ⟨S2304x768, .f32⟩
  | 60 => ⟨S2048x768, .f32⟩
  | 61 => ⟨S1x768, .f32⟩
  | 62 => ⟨S768, .f32⟩
  | 63 => ⟨S1x768, .f32⟩
  | 64 => ⟨S2048x768, .f32⟩
  | 65 => ⟨S2048x768, .f32⟩
  | 66 => ⟨S_, .f32⟩
  | 67 => ⟨S2048x768, .f32⟩
  | 68 => ⟨S2048x768, .f32⟩
  | 69 => ⟨S768x768, .f32⟩
  | 70 => ⟨S2048x768, .f32⟩
  | 71 => ⟨S1x768, .f32⟩
  | 72 => ⟨S2048x768, .f32⟩
  | 73 => ⟨S2048x768, .f32⟩
  | 74 => ⟨S_, .f32⟩
  | 75 => ⟨S2048x768, .f32⟩
  | 76 => ⟨S2048x768, .f32⟩
  | 77 => ⟨S768x768, .f32⟩
  | 78 => ⟨S2048x768, .f32⟩
  | 79 => ⟨S1x768, .f32⟩
  | 80 => ⟨S2048x768, .f32⟩
  | 81 => ⟨S2048x768, .f32⟩
  | 82 => ⟨S_, .f32⟩
  | 83 => ⟨S2048x768, .f32⟩
  | 84 => ⟨S2048x768, .f32⟩
  | 85 => ⟨S768x768, .f32⟩
  | 86 => ⟨S2048x768, .f32⟩
  | 87 => ⟨S1x768, .f32⟩
  | 88 => ⟨S2048x768, .f32⟩
  | 89 => ⟨S2048x768, .f32⟩
  | 90 => ⟨S2048x768, .f32⟩
  | 91 => ⟨S1x2304x768, .f32⟩
  | 92 => ⟨S2304x768, .f32⟩
  | 93 => ⟨S768x2304, .f32⟩
  | 94 => ⟨S2048x2304, .f32⟩
  | 95 => ⟨S1x2304, .f32⟩
  | 96 => ⟨S2304, .f32⟩
  | 97 => ⟨S1x2304, .f32⟩
  | 98 => ⟨S2048x2304, .f32⟩
  | 99 => ⟨S2048x2304, .f32⟩
  | 100 => ⟨S2048x768, .f32⟩
  | 101 => ⟨S2048x768, .f32⟩
  | 102 => ⟨S2048x768, .f32⟩
  | 103 => ⟨S2048x768, .f32⟩
  | 104 => ⟨S2048x768, .f32⟩
  | 105 => ⟨S2048x768, .f32⟩
  | 106 => ⟨S2048x768, .f32⟩
  | 107 => ⟨S2048x768, .f32⟩
  | 108 => ⟨S2048x768, .f32⟩
  | 109 => ⟨S2048x768, .f32⟩
  | 110 => ⟨S1x1, .f32⟩
  | 111 => ⟨S2048x768, .f32⟩
  | 112 => ⟨S2048x768, .f32⟩
  | 113 => ⟨S2048x768, .f32⟩
  | 114 => ⟨S2048x768, .f32⟩
  | 115 => ⟨S2048x768, .f32⟩
  | 116 => ⟨S2048x768, .f32⟩
  | 117 => ⟨S2048x768, .f32⟩
  | 118 => ⟨S2048x768, .f32⟩
  | 119 => ⟨S_, .f32⟩
  | 120 => ⟨S2048, .f32⟩
  | 121 => ⟨S2048, .f32⟩
  | _ => ⟨S2048x768, .f32⟩

abbrev hbmTy (i : Nat) : BufTy := match i / 128 with
  | 0 => hbmTy0_0 i
  | 1 => hbmTy0_1 i
  | 2 => hbmTy0_2 i
  | 3 => hbmTy0_3 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_call0_cst : Ref sig .tc := ⟨.hbm, 48, rfl⟩
abbrev main_call0_v0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call1_cst : Ref sig .tc := ⟨.hbm, 56, rfl⟩
abbrev main_call1_v0 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call2_cst : Ref sig .tc := ⟨.hbm, 64, rfl⟩
abbrev main_call2_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_call3_cst : Ref sig .tc := ⟨.hbm, 72, rfl⟩
abbrev main_call3_v0 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call4_cst : Ref sig .tc := ⟨.hbm, 96, rfl⟩
abbrev main_call4_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_cst : Ref sig .tc := ⟨.hbm, 104, rfl⟩
abbrev main_call5_v0 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call6_cst : Ref sig .tc := ⟨.hbm, 112, rfl⟩
abbrev main_call6_v0 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_2 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_call7_cst : Ref sig .tc := ⟨.hbm, 164, rfl⟩
abbrev main_call7_v0 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_call8_cst : Ref sig .tc := ⟨.hbm, 172, rfl⟩
abbrev main_call8_v0 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_call9_cst : Ref sig .tc := ⟨.hbm, 180, rfl⟩
abbrev main_call9_v0 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_call10_cst : Ref sig .tc := ⟨.hbm, 188, rfl⟩
abbrev main_call10_v0 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_call11_cst : Ref sig .tc := ⟨.hbm, 212, rfl⟩
abbrev main_call11_v0 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_call12_cst : Ref sig .tc := ⟨.hbm, 220, rfl⟩
abbrev main_call12_v0 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_call13_cst : Ref sig .tc := ⟨.hbm, 228, rfl⟩
abbrev main_call13_v0 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_3 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_cst_4 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_call14_cst : Ref sig .tc := ⟨.hbm, 286, rfl⟩
abbrev main_call14_v0 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_call15_cst : Ref sig .tc := ⟨.hbm, 294, rfl⟩
abbrev main_call15_v0 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_call16_cst : Ref sig .tc := ⟨.hbm, 302, rfl⟩
abbrev main_call16_v0 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_call17_cst : Ref sig .tc := ⟨.hbm, 310, rfl⟩
abbrev main_call17_v0 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_call18_cst : Ref sig .tc := ⟨.hbm, 334, rfl⟩
abbrev main_call18_v0 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_call19_cst : Ref sig .tc := ⟨.hbm, 342, rfl⟩
abbrev main_call19_v0 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_call20_cst : Ref sig .tc := ⟨.hbm, 350, rfl⟩
abbrev main_call20_v0 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_cst_5 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_call21_cst : Ref sig .tc := ⟨.hbm, 402, rfl⟩
abbrev main_call21_v0 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_call22_cst : Ref sig .tc := ⟨.hbm, 410, rfl⟩
abbrev main_call22_v0 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_call23_cst : Ref sig .tc := ⟨.hbm, 418, rfl⟩
abbrev main_call23_v0 : Ref sig .tc := ⟨.hbm, 419, rfl⟩
abbrev main_v341 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_v346 : Ref sig .tc := ⟨.hbm, 425, rfl⟩
abbrev main_call24_cst : Ref sig .tc := ⟨.hbm, 426, rfl⟩
abbrev main_call24_v0 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_v360 : Ref sig .tc := ⟨.hbm, 441, rfl⟩
abbrev main_v361 : Ref sig .tc := ⟨.hbm, 442, rfl⟩
abbrev main_v362 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_call25_cst : Ref sig .tc := ⟨.hbm, 450, rfl⟩
abbrev main_call25_v0 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_call26_cst : Ref sig .tc := ⟨.hbm, 458, rfl⟩
abbrev main_call26_v0 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_call27_cst : Ref sig .tc := ⟨.hbm, 466, rfl⟩
abbrev main_call27_v0 : Ref sig .tc := ⟨.hbm, 467, rfl⟩
abbrev main_v381 : Ref sig .tc := ⟨.hbm, 468, rfl⟩
abbrev main_v382 : Ref sig .tc := ⟨.hbm, 469, rfl⟩
abbrev main_v383 : Ref sig .tc := ⟨.hbm, 470, rfl⟩
abbrev main_v384 : Ref sig .tc := ⟨.hbm, 471, rfl⟩
abbrev main_v385 : Ref sig .tc := ⟨.hbm, 472, rfl⟩
abbrev main_v386 : Ref sig .tc := ⟨.hbm, 473, rfl⟩
abbrev main_v387 : Ref sig .tc := ⟨.hbm, 474, rfl⟩
abbrev main_v388 : Ref sig .tc := ⟨.hbm, 475, rfl⟩
abbrev main_v389 : Ref sig .tc := ⟨.hbm, 476, rfl⟩
abbrev main_v390 : Ref sig .tc := ⟨.hbm, 477, rfl⟩
abbrev main_v391 : Ref sig .tc := ⟨.hbm, 478, rfl⟩
abbrev main_v392 : Ref sig .tc := ⟨.hbm, 479, rfl⟩
abbrev main_v393 : Ref sig .tc := ⟨.hbm, 480, rfl⟩
abbrev main_v394 : Ref sig .tc := ⟨.hbm, 481, rfl⟩
abbrev main_v395 : Ref sig .tc := ⟨.hbm, 482, rfl⟩
abbrev main_v396 : Ref sig .tc := ⟨.hbm, 483, rfl⟩
abbrev main_v397 : Ref sig .tc := ⟨.hbm, 484, rfl⟩
abbrev main_v398 : Ref sig .tc := ⟨.hbm, 485, rfl⟩
abbrev main_v399 : Ref sig .tc := ⟨.hbm, 486, rfl⟩
abbrev main_v400 : Ref sig .tc := ⟨.hbm, 487, rfl⟩
abbrev main_v401 : Ref sig .tc := ⟨.hbm, 488, rfl⟩
abbrev main_v402 : Ref sig .tc := ⟨.hbm, 489, rfl⟩
abbrev main_v403 : Ref sig .tc := ⟨.hbm, 490, rfl⟩
abbrev main_v404 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_v408 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_v412 : Ref sig .tc := ⟨.hbm, 499, rfl⟩
abbrev main_v413 : Ref sig .tc := ⟨.hbm, 500, rfl⟩
abbrev main_v414 : Ref sig .tc := ⟨.hbm, 501, rfl⟩
abbrev main_v415 : Ref sig .tc := ⟨.hbm, 502, rfl⟩
abbrev main_cst_6 : Ref sig .tc := ⟨.hbm, 503, rfl⟩
abbrev main_v416 : Ref sig .tc := ⟨.hbm, 504, rfl⟩
abbrev main_v417 : Ref sig .tc := ⟨.hbm, 505, rfl⟩

abbrev nD : Nat := 1
abbrev τ : Topo := Topo.v7x

variable {F : FTy → Type} [FloatOps F]
-- ==== Proof.IdealRegion1.lean ====
/- Call 1 of the kernel, `cc1__step_kernel`, from any contents `V` of the TensorCore's buffers at its entry: the block
   every window holds at a point (`iblk1`), what the body leaves in each output's buffer (`out1_25`, `out1_26`), the body's
   triple (`sound_kernel1`), the proof data (`dat1`) and the obligation of the body at every point (`body_obligation1`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__step_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x768 := Rect.unit (s := S256x768) ![0, 0] S256x768.size inb_S256x768_S256x768_0_0
abbrev r1_1 : Rect S1x1 := Rect.unit (s := S1x1) ![0, 0] S1x1.size inb_S1x1_S1x1_0_0
abbrev r1_2 : Rect S1x1x768 := Rect.unit (s := S1x1x768) ![0, 0, 0] S1x1x768.size inb_S1x1x768_S1x1x768_0_0_0
abbrev r1_3 : Rect S1x768x1536 := Rect.unit (s := S1x768x1536) ![0, 0, 0] S1x768x1536.size inb_S1x768x1536_S1x768x1536_0_0_0
abbrev r1_4 : Rect S768x768 := Rect.unit (s := S768x768) ![0, 0] S768x768.size inb_S768x768_S768x768_0_0
abbrev r1_5 : Rect S1x768 := Rect.unit (s := S1x768) ![0, 0] S1x768.size inb_S1x768_S1x768_0_0
abbrev r1_6 : Rect S1x768x768 := Rect.unit (s := S1x768x768) ![0, 0, 0] S1x768x768.size inb_S1x768x768_S1x768x768_0_0_0
abbrev r1_7 : Rect S1x768x2304 := Rect.unit (s := S1x768x2304) ![0, 0, 0] S1x768x2304.size inb_S1x768x2304_S1x768x2304_0_0_0
abbrev r1_8 : Rect S1x2304x768 := Rect.unit (s := S1x2304x768) ![0, 0, 0] S1x2304x768.size inb_S1x2304x768_S1x2304x768_0_0_0
abbrev r1_9 : Rect S1x1x2304 := Rect.unit (s := S1x1x2304) ![0, 0, 0] S1x1x2304.size inb_S1x1x2304_S1x1x2304_0_0_0
abbrev r1_10 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k1_pay25` …, after `k1_pay24`), so that
    `out1_W` and the values after it name it instead of spelling it out; the comment after each is the
    kernel's name for the value (a count appended where that name is bound again). -/

def k1_pay25 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S1x768 .f32 :=
  k1_pay4 (View.ld x4 r1_2) -- `v8`
def k1_pay26 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S1x768 .f32 :=
  k1_pay5 (View.ld x4 r1_2) -- `v10`
def k1_pay27 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay6 (View.ld x1 r1_0) (View.ld x4 r1_2) -- `v12`
def k1_pay28 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay7 (View.ld x0 r1_0) (View.ld x1 r1_0) (View.ld x4 r1_2) (View.ld x5 r1_3) (View.ld x6 r1_2) (View.ld x7 r1_4) (View.ld x8 r1_5) -- `v30`
def k1_pay29 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay9 (View.ld x0 r1_0) (k1_pay27 x0 x1 x2 x3 x4 x5 x6 x7 x8 x9 x10 x11 x12 x13 x14 x15 x16 x17 x18 x19 x20 x21 x22 x23 x24) (k1_pay28 x0 x1 x2 x3 x4 x5 x6 x7 x8 x9 x10 x11 x12 x13 x14 x15 x16 x17 x18 x19 x20 x21 x22 x23 x24) (View.ld x9 r1_4) (View.ld x10 r1_5) (View.ld x11 r1_4) (View.ld x12 r1_5) (View.ld x13 r1_6) (View.ld x14 r1_2) (View.ld x15 r1_7) (View.ld x16 r1_2) -- `v63`
def k1_pay30 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay12 (k1_pay2 (View.ld x1 r1_0)) (k1_pay29 x0 x1 x2 x3 x4 x5 x6 x7 x8 x9 x10 x11 x12 x13 x14 x15 x16 x17 x18 x19 x20 x21 x22 x23 x24) (View.ld x17 r1_4) (View.ld x18 r1_5) (View.ld x19 r1_4) (View.ld x20 r1_5) (View.ld x21 r1_4) (View.ld x22 r1_5) (View.ld x23 r1_8) (View.ld x24 r1_9) -- `v98`
def k1_pay31 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay13 (k1_pay8 (k1_pay28 x0 x1 x2 x3 x4 x5 x6 x7 x8 x9 x10 x11 x12 x13 x14 x15 x16 x17 x18 x19 x20 x21 x22 x23 x24) (View.ld x9 r1_4) (View.ld x10 r1_5) (View.ld x11 r1_4) (View.ld x12 r1_5) (View.ld x13 r1_6) (View.ld x14 r1_2)) (k1_pay29 x0 x1 x2 x3 x4 x5 x6 x7 x8 x9 x10 x11 x12 x13 x14 x15 x16 x17 x18 x19 x20 x21 x22 x23 x24) (View.ld x17 r1_4) (View.ld x18 r1_5) (View.ld x19 r1_4) (View.ld x20 r1_5) (View.ld x21 r1_4) (View.ld x22 r1_5) (View.ld x23 r1_8) (View.ld x24 r1_9) -- `v101`
def k1_pay32 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay14 (k1_pay3 (View.ld x3 r1_1)) -- `v102`
def k1_pay33 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay17 (k1_pay26 x0 x1 x2 x3 x4 x5 x6 x7 x8 x9 x10 x11 x12 x13 x14 x15 x16 x17 x18 x19 x20 x21 x22 x23 x24) (k1_pay27 x0 x1 x2 x3 x4 x5 x6 x7 x8 x9 x10 x11 x12 x13 x14 x15 x16 x17 x18 x19 x20 x21 x22 x23 x24) (k1_pay30 x0 x1 x2 x3 x4 x5 x6 x7 x8 x9 x10 x11 x12 x13 x14 x15 x16 x17 x18 x19 x20 x21 x22 x23 x24) (k1_pay31 x0 x1 x2 x3 x4 x5 x6 x7 x8 x9 x10 x11 x12 x13 x14 x15 x16 x17 x18 x19 x20 x21 x22 x23 x24) (k1_pay32 x0 x1 x2 x3 x4 x5 x6 x7 x8 x9 x10 x11 x12 x13 x14 x15 x16 x17 x18 x19 x20 x21 x22 x23 x24) -- `v113`
def k1_pay34 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay18 (View.ld x0 r1_0) (k1_pay26 x0 x1 x2 x3 x4 x5 x6 x7 x8 x9 x10 x11 x12 x13 x14 x15 x16 x17 x18 x19 x20 x21 x22 x23 x24) (k1_pay27 x0 x1 x2 x3 x4 x5 x6 x7 x8 x9 x10 x11 x12 x13 x14 x15 x16 x17 x18 x19 x20 x21 x22 x23 x24) (k1_pay30 x0 x1 x2 x3 x4 x5 x6 x7 x8 x9 x10 x11 x12 x13 x14 x15 x16 x17 x18 x19 x20 x21 x22 x23 x24) (k1_pay31 x0 x1 x2 x3 x4 x5 x6 x7 x8 x9 x10 x11 x12 x13 x14 x15 x16 x17 x18 x19 x20 x21 x22 x23 x24) (k1_pay32 x0 x1 x2 x3 x4 x5 x6 x7 x8 x9 x10 x11 x12 x13 x14 x15 x16 x17 x18 x19 x20 x21 x22 x23 x24) (View.ld x5 r1_3) (View.ld x6 r1_2) (View.ld x7 r1_4) (View.ld x8 r1_5) (View.ld x9 r1_4) (View.ld x10 r1_5) -- `v139`
def k1_pay35 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k1_pay20 (View.ld x0 r1_0) (k1_pay33 x0 x1 x2 x3 x4 x5 x6 x7 x8 x9 x10 x11 x12 x13 x14 x15 x16 x17 x18 x19 x20 x21 x22 x23 x24) (k1_pay34 x0 x1 x2 x3 x4 x5 x6 x7 x8 x9 x10 x11 x12 x13 x14 x15 x16 x17 x18 x19 x20 x21 x22 x23 x24) (View.ld x11 r1_4) (View.ld x12 r1_5) (View.ld x13 r1_6) (View.ld x14 r1_2) (View.ld x15 r1_7) (View.ld x16 r1_2) (View.ld x17 r1_4) (View.ld x18 r1_5) -- `v172`

/-- Window 25's staging buffer after the body, from the input windows' blocks: its 1 store as pieces, LAST
    FIRST (Lib/Pipeline/FrameBody.lean `View.canon`; the payloads are the skeleton's and the values stated above). -/
def out1_25 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : Vec F S256x768 .f32 :=
  View.canon [⟨r1_0, k1_pay23 (k1_pay3 (View.ld x3 r1_1)) (k1_pay25 x0 x1 x2 x3 x4 x5 x6 x7 x8 x9 x10 x11 x12 x13 x14 x15 x16 x17 x18 x19 x20 x21 x22 x23 x24) (k1_pay15 (k1_pay26 x0 x1 x2 x3 x4 x5 x6 x7 x8 x9 x10 x11 x12 x13 x14 x15 x16 x17 x18 x19 x20 x21 x22 x23 x24) (k1_pay27 x0 x1 x2 x3 x4 x5 x6 x7 x8 x9 x10 x11 x12 x13 x14 x15 x16 x17 x18 x19 x20 x21 x22 x23 x24) (k1_pay30 x0 x1 x2 x3 x4 x5 x6 x7 x8 x9 x10 x11 x12 x13 x14 x15 x16 x17 x18 x19 x20 x21 x22 x23 x24) (k1_pay31 x0 x1 x2 x3 x4 x5 x6 x7 x8 x9 x10 x11 x12 x13 x14 x15 x16 x17 x18 x19 x20 x21 x22 x23 x24) (k1_pay32 x0 x1 x2 x3 x4 x5 x6 x7 x8 x9 x10 x11 x12 x13 x14 x15 x16 x17 x18 x19 x20 x21 x22 x23 x24)) (k1_pay33 x0 x1 x2 x3 x4 x5 x6 x7 x8 x9 x10 x11 x12 x13 x14 x15 x16 x17 x18 x19 x20 x21 x22 x23 x24) (k1_pay19 (k1_pay34 x0 x1 x2 x3 x4 x5 x6 x7 x8 x9 x10 x11 x12 x13 x14 x15 x16 x17 x18 x19 x20 x21 x22 x23 x24) (View.ld x11 r1_4) (View.ld x12 r1_5) (View.ld x13 r1_6) (View.ld x14 r1_2)) (k1_pay35 x0 x1 x2 x3 x4 x5 x6 x7 x8 x9 x10 x11 x12 x13 x14 x15 x16 x17 x18 x19 x20 x21 x22 x23 x24) (View.ld x19 r1_4) (View.ld x20 r1_5) (View.ld x21 r1_4) (View.ld x22 r1_5) (View.ld x23 r1_8) (View.ld x24 r1_9)⟩]

/-- Its stores tile the buffer (checked by evaluation), so they cover it. -/
theorem cover1_25 (p0 : Vec F S256x768 .f32) (y : S256x768.Idx) :
    ∃ pc ∈ ([⟨r1_0, p0⟩] : List (View.Piece (Elt F) S256x768 .f32)), y ∈ pc.1.set :=
  View.cover_of_tiled [⟨r1_0, p0⟩] S256x768.size (by rfl) y

/-- Window 26's staging buffer after the body, from the input windows' blocks: its 1 store as pieces, LAST
    FIRST (Lib/Pipeline/FrameBody.lean `View.canon`; the payloads are the skeleton's and the values stated above). -/
def out1_26 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : Vec F S256x1 .f32 :=
  View.canon [⟨r1_10, k1_pay1 (k1_pay16 (k1_pay26 x0 x1 x2 x3 x4 x5 x6 x7 x8 x9 x10 x11 x12 x13 x14 x15 x16 x17 x18 x19 x20 x21 x22 x23 x24) (k1_pay11 (k1_pay29 x0 x1 x2 x3 x4 x5 x6 x7 x8 x9 x10 x11 x12 x13 x14 x15 x16 x17 x18 x19 x20 x21 x22 x23 x24) (View.ld x17 r1_4) (View.ld x18 r1_5) (View.ld x19 r1_4) (View.ld x20 r1_5) (View.ld x21 r1_4) (View.ld x22 r1_5) (View.ld x23 r1_8) (View.ld x24 r1_9))) (k1_pay24 (k1_pay25 x0 x1 x2 x3 x4 x5 x6 x7 x8 x9 x10 x11 x12 x13 x14 x15 x16 x17 x18 x19 x20 x21 x22 x23 x24) (k1_pay35 x0 x1 x2 x3 x4 x5 x6 x7 x8 x9 x10 x11 x12 x13 x14 x15 x16 x17 x18 x19 x20 x21 x22 x23 x24) (View.ld x19 r1_4) (View.ld x20 r1_5) (View.ld x21 r1_4) (View.ld x22 r1_5) (View.ld x23 r1_8) (View.ld x24 r1_9)) (View.ld x2 r1_10)⟩]

/-- Its stores tile the buffer (checked by evaluation), so they cover it. -/
theorem cover1_26 (p0 : Vec F S256x1 .f32) (y : S256x1.Idx) :
    ∃ pc ∈ ([⟨r1_10, p0⟩] : List (View.Piece (Elt F) S256x1 .f32)), y ∈ pc.1.set :=
  View.cover_of_tiled [⟨r1_10, p0⟩] S256x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S256x768 .f32) (harg1 : arg1.IsWhole) (arg2 : Memref sig .tc .vmem S256x768 .f32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1x768 .f32) (harg5 : arg5.IsWhole) (arg6 : Memref sig .tc .vmem S1x768x1536 .f32) (harg6 : arg6.IsWhole) (arg7 : Memref sig .tc .vmem S1x1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S768x768 .f32) (harg10 : arg10.IsWhole) (arg11 : Memref sig .tc .vmem S1x768 .f32) (harg11 : arg11.IsWhole) (arg12 : Memref sig .tc .vmem S768x768 .f32) (harg12 : arg12.IsWhole) (arg13 : Memref sig .tc .vmem S1x768 .f32) (harg13 : arg13.IsWhole) (arg14 : Memref sig .tc .vmem S1x768x768 .f32) (harg14 : arg14.IsWhole) (arg15 : Memref sig .tc .vmem S1x1x768 .f32) (harg15 : arg15.IsWhole) (arg16 : Memref sig .tc .vmem S1x768x2304 .f32) (harg16 : arg16.IsWhole) (arg17 : Memref sig .tc .vmem S1x1x768 .f32) (harg17 : arg17.IsWhole) (arg18 : Memref sig .tc .vmem S768x768 .f32) (harg18 : arg18.IsWhole) (arg19 : Memref sig .tc .vmem S1x768 .f32) (harg19 : arg19.IsWhole) (arg20 : Memref sig .tc .vmem S768x768 .f32) (harg20 : arg20.IsWhole) (arg21 : Memref sig .tc .vmem S1x768 .f32) (harg21 : arg21.IsWhole) (arg22 : Memref sig .tc .vmem S768x768 .f32) (harg22 : arg22.IsWhole) (arg23 : Memref sig .tc .vmem S1x768 .f32) (harg23 : arg23.IsWhole) (arg24 : Memref sig .tc .vmem S1x2304x768 .f32) (harg24 : arg24.IsWhole) (arg25 : Memref sig .tc .vmem S1x1x2304 .f32) (harg25 : arg25.IsWhole) (arg26 : Memref sig .tc .vmem S256x768 .f32) (harg26 : arg26.IsWhole) (arg27 : Memref sig .tc .vmem S256x1 .f32) (harg27 : arg27.IsWhole)
    (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out1_25 x0 x1 x2 x3 x4 x5 x6 x7 x8 x9 x10 x11 x12 x13 x14 x15 x16 x17 x18 x19 x20 x21 x22 x23 x24) ∗ owns (c : Thread nD τ) arg27 fullShare (out1_26 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc1__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc1__step_kernel_eq_skeleton]; unfold cc1__step_kernel_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover1_25 _)).trans ?_
    rfl
  iexists _; isplitr
  swap; · iexact H26
  ipureintro
  refine (View.read_writes_eq_canon _ _ _ (cover1_26 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => out1_25 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    | ⟨26, _⟩ => out1_26 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    | ⟨_ + 27, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = out1_25 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) := by dsimp only [dat1]
theorem after1_26 (c : Dev nD) (t : Fin cfg1.N) : (dat1 V c).after 26 t = out1_26 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t))

-- 27 windows, each named three times in the statement
set_option maxHeartbeats 1000000 in
/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

-- 27 windows, each named three times in the statement
set_option maxHeartbeats 1000000 in
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.IdealRegion0.lean ====
/- Call 0 of the kernel, `cc0__step_kernel`, from any contents `V` of the TensorCore's buffers at its entry: the block
   every window holds at a point (`iblk0`), what the body leaves in each output's buffer (`out0_25`, `out0_26`), the body's
   triple (`sound_kernel0`), the proof data (`dat0`) and the obligation of the body at every point (`body_obligation0`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__step_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V c (Pipeline.arrRef spec0 23))
    (hafter : ∀ t, dat.after 23 t = iblk0 V c 23 t) (t : Fin cfg0.N) (d) : dat.before 23 t d = iblk0 V c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V c (Pipeline.arrRef spec0 24))
    (hafter : ∀ t, dat.after 24 t = iblk0 V c 24 t) (t : Fin cfg0.N) (d) : dat.before 24 t d = iblk0 V c 24 t :=
  (dat.before_in_eq_fetched 24 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x768 := Rect.unit (s := S256x768) ![0, 0] S256x768.size inb_S256x768_S256x768_0_0
abbrev r0_1 : Rect S1x1 := Rect.unit (s := S1x1) ![0, 0] S1x1.size inb_S1x1_S1x1_0_0
abbrev r0_2 : Rect S1x1x768 := Rect.unit (s := S1x1x768) ![0, 0, 0] S1x1x768.size inb_S1x1x768_S1x1x768_0_0_0
abbrev r0_3 : Rect S1x768x1536 := Rect.unit (s := S1x768x1536) ![0, 0, 0] S1x768x1536.size inb_S1x768x1536_S1x768x1536_0_0_0
abbrev r0_4 : Rect S768x768 := Rect.unit (s := S768x768) ![0, 0] S768x768.size inb_S768x768_S768x768_0_0
abbrev r0_5 : Rect S1x768 := Rect.unit (s := S1x768) ![0, 0] S1x768.size inb_S1x768_S1x768_0_0
abbrev r0_6 : Rect S1x768x768 := Rect.unit (s := S1x768x768) ![0, 0, 0] S1x768x768.size inb_S1x768x768_S1x768x768_0_0_0
abbrev r0_7 : Rect S1x768x2304 := Rect.unit (s := S1x768x2304) ![0, 0, 0] S1x768x2304.size inb_S1x768x2304_S1x768x2304_0_0_0
abbrev r0_8 : Rect S1x2304x768 := Rect.unit (s := S1x2304x768) ![0, 0, 0] S1x2304x768.size inb_S1x2304x768_S1x2304x768_0_0_0
abbrev r0_9 : Rect S1x1x2304 := Rect.unit (s := S1x1x2304) ![0, 0, 0] S1x1x2304.size inb_S1x1x2304_S1x1x2304_0_0_0
abbrev r0_10 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay23` …, after `k0_pay22`), so that
    `out0_W` and the values after it name it instead of spelling it out; the comment after each is the
    kernel's name for the value (a count appended where that name is bound again). -/

def k0_pay23 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  constant S256x768 .f32 0x00000000#32 -- `cst_25`
def k0_pay24 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S1x768 .f32 :=
  k0_pay3 (View.ld x4 r0_2) -- `v7`
def k0_pay25 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S1x768 .f32 :=
  k0_pay4 (View.ld x4 r0_2) -- `v9`
def k0_pay26 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay5 (View.ld x1 r0_0) (View.ld x4 r0_2) -- `v11`
def k0_pay27 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay6 (View.ld x0 r0_0) (View.ld x1 r0_0) (View.ld x4 r0_2) (View.ld x5 r0_3) (View.ld x6 r0_2) (View.ld x7 r0_4) (View.ld x8 r0_5) -- `v29`
def k0_pay28 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  constant S256x768 .f32 0x00000000#32 -- `cst_52`
def k0_pay29 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay8 (View.ld x0 r0_0) (k0_pay26 x0 x1 x2 x3 x4 x5 x6 x7 x8 x9 x10 x11 x12 x13 x14 x15 x16 x17 x18 x19 x20 x21 x22 x23 x24) (k0_pay27 x0 x1 x2 x3 x4 x5 x6 x7 x8 x9 x10 x11 x12 x13 x14 x15 x16 x17 x18 x19 x20 x21 x22 x23 x24) (View.ld x9 r0_4) (k0_pay23 x0 x1 x2 x3 x4 x5 x6 x7 x8 x9 x10 x11 x12 x13 x14 x15 x16 x17 x18 x19 x20 x21 x22 x23 x24) (View.ld x10 r0_5) (View.ld x11 r0_4) (View.ld x12 r0_5) (View.ld x13 r0_6) (View.ld x14 r0_2) (View.ld x15 r0_7) (View.ld x16 r0_2) -- `v62`
def k0_pay30 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay11 (View.ld x1 r0_0) (k0_pay29 x0 x1 x2 x3 x4 x5 x6 x7 x8 x9 x10 x11 x12 x13 x14 x15 x16 x17 x18 x19 x20 x21 x22 x23 x24) (View.ld x17 r0_4) (k0_pay28 x0 x1 x2 x3 x4 x5 x6 x7 x8 x9 x10 x11 x12 x13 x14 x15 x16 x17 x18 x19 x20 x21 x22 x23 x24) (View.ld x18 r0_5) (View.ld x19 r0_4) (View.ld x20 r0_5) (View.ld x21 r0_4) (View.ld x22 r0_5) (View.ld x23 r0_8) (View.ld x24 r0_9) -- `v97`
def k0_pay31 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay12 (k0_pay2 (View.ld x3 r0_1)) (k0_pay7 (k0_pay27 x0 x1 x2 x3 x4 x5 x6 x7 x8 x9 x10 x11 x12 x13 x14 x15 x16 x17 x18 x19 x20 x21 x22 x23 x24) (View.ld x9 r0_4) (k0_pay23 x0 x1 x2 x3 x4 x5 x6 x7 x8 x9 x10 x11 x12 x13 x14 x15 x16 x17 x18 x19 x20 x21 x22 x23 x24) (View.ld x10 r0_5) (View.ld x11 r0_4) (View.ld x12 r0_5) (View.ld x13 r0_6) (View.ld x14 r0_2)) (k0_pay29 x0 x1 x2 x3 x4 x5 x6 x7 x8 x9 x10 x11 x12 x13 x14 x15 x16 x17 x18 x19 x20 x21 x22 x23 x24) (View.ld x17 r0_4) (k0_pay28 x0 x1 x2 x3 x4 x5 x6 x7 x8 x9 x10 x11 x12 x13 x14 x15 x16 x17 x18 x19 x20 x21 x22 x23 x24) (View.ld x18 r0_5) (View.ld x19 r0_4) (View.ld x20 r0_5) (View.ld x21 r0_4) (View.ld x22 r0_5) (View.ld x23 r0_8) (View.ld x24 r0_9) -- `v102`
def k0_pay32 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay15 (k0_pay25 x0 x1 x2 x3 x4 x5 x6 x7 x8 x9 x10 x11 x12 x13 x14 x15 x16 x17 x18 x19 x20 x21 x22 x23 x24) (k0_pay26 x0 x1 x2 x3 x4 x5 x6 x7 x8 x9 x10 x11 x12 x13 x14 x15 x16 x17 x18 x19 x20 x21 x22 x23 x24) (k0_pay30 x0 x1 x2 x3 x4 x5 x6 x7 x8 x9 x10 x11 x12 x13 x14 x15 x16 x17 x18 x19 x20 x21 x22 x23 x24) (k0_pay31 x0 x1 x2 x3 x4 x5 x6 x7 x8 x9 x10 x11 x12 x13 x14 x15 x16 x17 x18 x19 x20 x21 x22 x23 x24) -- `v112`
def k0_pay33 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay16 (View.ld x0 r0_0) (k0_pay25 x0 x1 x2 x3 x4 x5 x6 x7 x8 x9 x10 x11 x12 x13 x14 x15 x16 x17 x18 x19 x20 x21 x22 x23 x24) (k0_pay26 x0 x1 x2 x3 x4 x5 x6 x7 x8 x9 x10 x11 x12 x13 x14 x15 x16 x17 x18 x19 x20 x21 x22 x23 x24) (k0_pay30 x0 x1 x2 x3 x4 x5 x6 x7 x8 x9 x10 x11 x12 x13 x14 x15 x16 x17 x18 x19 x20 x21 x22 x23 x24) (k0_pay31 x0 x1 x2 x3 x4 x5 x6 x7 x8 x9 x10 x11 x12 x13 x14 x15 x16 x17 x18 x19 x20 x21 x22 x23 x24) (View.ld x5 r0_3) (View.ld x6 r0_2) (View.ld x7 r0_4) (View.ld x8 r0_5) (View.ld x9 r0_4) (View.ld x10 r0_5) -- `v138`
def k0_pay34 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : FVec F S256x768 .f32 :=
  k0_pay18 (View.ld x0 r0_0) (k0_pay32 x0 x1 x2 x3 x4 x5 x6 x7 x8 x9 x10 x11 x12 x13 x14 x15 x16 x17 x18 x19 x20 x21 x22 x23 x24) (k0_pay33 x0 x1 x2 x3 x4 x5 x6 x7 x8 x9 x10 x11 x12 x13 x14 x15 x16 x17 x18 x19 x20 x21 x22 x23 x24) (View.ld x11 r0_4) (View.ld x12 r0_5) (View.ld x13 r0_6) (View.ld x14 r0_2) (View.ld x15 r0_7) (View.ld x16 r0_2) (View.ld x17 r0_4) (View.ld x18 r0_5) -- `v171`

/-- Window 25's staging buffer after the body, from the input windows' blocks: its 1 store as pieces, LAST
    FIRST (Lib/Pipeline/FrameBody.lean `View.canon`; the payloads are the skeleton's and the values stated above). -/
def out0_25 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : Vec F S256x768 .f32 :=
  View.canon [⟨r0_0, k0_pay21 (k0_pay2 (View.ld x3 r0_1)) (k0_pay24 x0 x1 x2 x3 x4 x5 x6 x7 x8 x9 x10 x11 x12 x13 x14 x15 x16 x17 x18 x19 x20 x21 x22 x23 x24) (k0_pay13 (k0_pay25 x0 x1 x2 x3 x4 x5 x6 x7 x8 x9 x10 x11 x12 x13 x14 x15 x16 x17 x18 x19 x20 x21 x22 x23 x24) (k0_pay26 x0 x1 x2 x3 x4 x5 x6 x7 x8 x9 x10 x11 x12 x13 x14 x15 x16 x17 x18 x19 x20 x21 x22 x23 x24) (k0_pay30 x0 x1 x2 x3 x4 x5 x6 x7 x8 x9 x10 x11 x12 x13 x14 x15 x16 x17 x18 x19 x20 x21 x22 x23 x24) (k0_pay31 x0 x1 x2 x3 x4 x5 x6 x7 x8 x9 x10 x11 x12 x13 x14 x15 x16 x17 x18 x19 x20 x21 x22 x23 x24)) (k0_pay32 x0 x1 x2 x3 x4 x5 x6 x7 x8 x9 x10 x11 x12 x13 x14 x15 x16 x17 x18 x19 x20 x21 x22 x23 x24) (k0_pay17 (k0_pay33 x0 x1 x2 x3 x4 x5 x6 x7 x8 x9 x10 x11 x12 x13 x14 x15 x16 x17 x18 x19 x20 x21 x22 x23 x24) (View.ld x11 r0_4) (View.ld x12 r0_5) (View.ld x13 r0_6) (View.ld x14 r0_2)) (k0_pay34 x0 x1 x2 x3 x4 x5 x6 x7 x8 x9 x10 x11 x12 x13 x14 x15 x16 x17 x18 x19 x20 x21 x22 x23 x24) (View.ld x19 r0_4) (View.ld x20 r0_5) (View.ld x21 r0_4) (View.ld x22 r0_5) (View.ld x23 r0_8) (View.ld x24 r0_9)⟩]

/-- Its stores tile the buffer (checked by evaluation), so they cover it. -/
theorem cover0_25 (p0 : Vec F S256x768 .f32) (y : S256x768.Idx) :
    ∃ pc ∈ ([⟨r0_0, p0⟩] : List (View.Piece (Elt F) S256x768 .f32)), y ∈ pc.1.set :=
  View.cover_of_tiled [⟨r0_0, p0⟩] S256x768.size (by rfl) y

/-- Window 26's staging buffer after the body, from the input windows' blocks: its 1 store as pieces, LAST
    FIRST (Lib/Pipeline/FrameBody.lean `View.canon`; the payloads are the skeleton's and the values stated above). -/
def out0_26 (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) : Vec F S256x1 .f32 :=
  View.canon [⟨r0_10, k0_pay1 (k0_pay14 (k0_pay25 x0 x1 x2 x3 x4 x5 x6 x7 x8 x9 x10 x11 x12 x13 x14 x15 x16 x17 x18 x19 x20 x21 x22 x23 x24) (k0_pay10 (k0_pay29 x0 x1 x2 x3 x4 x5 x6 x7 x8 x9 x10 x11 x12 x13 x14 x15 x16 x17 x18 x19 x20 x21 x22 x23 x24) (View.ld x17 r0_4) (k0_pay28 x0 x1 x2 x3 x4 x5 x6 x7 x8 x9 x10 x11 x12 x13 x14 x15 x16 x17 x18 x19 x20 x21 x22 x23 x24) (View.ld x18 r0_5) (View.ld x19 r0_4) (View.ld x20 r0_5) (View.ld x21 r0_4) (View.ld x22 r0_5) (View.ld x23 r0_8) (View.ld x24 r0_9))) (k0_pay22 (k0_pay24 x0 x1 x2 x3 x4 x5 x6 x7 x8 x9 x10 x11 x12 x13 x14 x15 x16 x17 x18 x19 x20 x21 x22 x23 x24) (k0_pay34 x0 x1 x2 x3 x4 x5 x6 x7 x8 x9 x10 x11 x12 x13 x14 x15 x16 x17 x18 x19 x20 x21 x22 x23 x24) (View.ld x19 r0_4) (View.ld x20 r0_5) (View.ld x21 r0_4) (View.ld x22 r0_5) (View.ld x23 r0_8) (View.ld x24 r0_9)) (View.ld x2 r0_10)⟩]

/-- Its stores tile the buffer (checked by evaluation), so they cover it. -/
theorem cover0_26 (p0 : Vec F S256x1 .f32) (y : S256x1.Idx) :
    ∃ pc ∈ ([⟨r0_10, p0⟩] : List (View.Piece (Elt F) S256x1 .f32)), y ∈ pc.1.set :=
  View.cover_of_tiled [⟨r0_10, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x768 .f32) (harg1 : arg1.IsWhole) (arg2 : Memref sig .tc .vmem S256x768 .f32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1x768 .f32) (harg5 : arg5.IsWhole) (arg6 : Memref sig .tc .vmem S1x768x1536 .f32) (harg6 : arg6.IsWhole) (arg7 : Memref sig .tc .vmem S1x1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S768x768 .f32) (harg10 : arg10.IsWhole) (arg11 : Memref sig .tc .vmem S1x768 .f32) (harg11 : arg11.IsWhole) (arg12 : Memref sig .tc .vmem S768x768 .f32) (harg12 : arg12.IsWhole) (arg13 : Memref sig .tc .vmem S1x768 .f32) (harg13 : arg13.IsWhole) (arg14 : Memref sig .tc .vmem S1x768x768 .f32) (harg14 : arg14.IsWhole) (arg15 : Memref sig .tc .vmem S1x1x768 .f32) (harg15 : arg15.IsWhole) (arg16 : Memref sig .tc .vmem S1x768x2304 .f32) (harg16 : arg16.IsWhole) (arg17 : Memref sig .tc .vmem S1x1x768 .f32) (harg17 : arg17.IsWhole) (arg18 : Memref sig .tc .vmem S768x768 .f32) (harg18 : arg18.IsWhole) (arg19 : Memref sig .tc .vmem S1x768 .f32) (harg19 : arg19.IsWhole) (arg20 : Memref sig .tc .vmem S768x768 .f32) (harg20 : arg20.IsWhole) (arg21 : Memref sig .tc .vmem S1x768 .f32) (harg21 : arg21.IsWhole) (arg22 : Memref sig .tc .vmem S768x768 .f32) (harg22 : arg22.IsWhole) (arg23 : Memref sig .tc .vmem S1x768 .f32) (harg23 : arg23.IsWhole) (arg24 : Memref sig .tc .vmem S1x2304x768 .f32) (harg24 : arg24.IsWhole) (arg25 : Memref sig .tc .vmem S1x1x2304 .f32) (harg25 : arg25.IsWhole) (arg26 : Memref sig .tc .vmem S256x768 .f32) (harg26 : arg26.IsWhole) (arg27 : Memref sig .tc .vmem S256x1 .f32) (harg27 : arg27.IsWhole)
    (x0 : Vec F S256x768 .f32) (x1 : Vec F S256x768 .f32) (x2 : Vec F S256x1 .f32) (x3 : Vec F S1x1 .f32) (x4 : Vec F S1x1x768 .f32) (x5 : Vec F S1x768x1536 .f32) (x6 : Vec F S1x1x768 .f32) (x7 : Vec F S768x768 .f32) (x8 : Vec F S1x768 .f32) (x9 : Vec F S768x768 .f32) (x10 : Vec F S1x768 .f32) (x11 : Vec F S768x768 .f32) (x12 : Vec F S1x768 .f32) (x13 : Vec F S1x768x768 .f32) (x14 : Vec F S1x1x768 .f32) (x15 : Vec F S1x768x2304 .f32) (x16 : Vec F S1x1x768 .f32) (x17 : Vec F S768x768 .f32) (x18 : Vec F S1x768 .f32) (x19 : Vec F S768x768 .f32) (x20 : Vec F S1x768 .f32) (x21 : Vec F S768x768 .f32) (x22 : Vec F S1x768 .f32) (x23 : Vec F S1x2304x768 .f32) (x24 : Vec F S1x1x2304 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out0_25 x0 x1 x2 x3 x4 x5 x6 x7 x8 x9 x10 x11 x12 x13 x14 x15 x16 x17 x18 x19 x20 x21 x22 x23 x24) ∗ owns (c : Thread nD τ) arg27 fullShare (out0_26 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__step_kernel_eq_skeleton]; unfold cc0__step_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => iblk0 V c 24 t
    | ⟨25, _⟩ => out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t)
    | ⟨26, _⟩ => out0_26 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t)
    | ⟨_ + 27, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = iblk0 V c 24 t := by dsimp only [dat0]
theorem after0_25 (c : Dev nD) (t : Fin cfg0.N) : (dat0 V c).after 25 t = out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) := by dsimp only [dat0]
theorem after0_26 (c : Dev nD) (t : Fin cfg0.N) : (dat0 V c).after 26 t = out0_26 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d
theorem before0_23 (c : Dev nD) (t : Fin cfg0.N) (d) : (dat0 V c).before 23 t d = iblk0 V c 23 t :=
  before0_23_of V (dat0 V c) (A_eq0 V c 23) (after0_23 V c) t d
theorem before0_24 (c : Dev nD) (t : Fin cfg0.N) (d) : (dat0 V c).before 24 t d = iblk0 V c 24 t :=
  before0_24_of V (dat0 V c) (A_eq0 V c 24) (after0_24 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t))

-- 27 windows, each named three times in the statement
set_option maxHeartbeats 1000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

-- 27 windows, each named three times in the statement
set_option maxHeartbeats 1000000 in
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Spec.lean ====
/-
  The flow, row by row, in plain mathematics over the extended reals: the two networks, half a leapfrog step, a whole
  step. Every row of the batch is treated alike and alone, so these functions take one row of `x` and one row of `v`.
  Nothing here mentions a program.
-/
module

public import Idealize.ShloMosaic.PureOps.Ideal

@[expose] public section

noncomputable section

namespace Cert.Flow

open Idealize.ShloMosaic

/-- An affine layer: `a ↦ W a + b`, the weight matrix stored with one row per output. -/
def dense {n k : ℕ} (W : Fin n → Fin k → EReal) (b : Fin n → EReal) (a : Fin k → EReal) : Fin n → EReal :=
  fun j => (∑ i, a i * W j i) + b j

/-- The rectifier, entry by entry. -/
def relu {k : ℕ} (a : Fin k → EReal) : Fin k → EReal := fun j => max (a j) 0

/-- Two rows of 768 entries, one after the other. -/
def cat2 (a b : Fin 768 → EReal) : Fin 1536 → EReal :=
  fun j => if h : j.val < 768 then a ⟨j.val, h⟩ else b ⟨j.val - 768, by omega⟩

/-- Three rows of 768 entries, one after the other. -/
def cat3 (a b d : Fin 768 → EReal) : Fin 2304 → EReal :=
  fun j => if h : j.val < 768 then a ⟨j.val, h⟩ else
    if h' : j.val - 768 < 768 then b ⟨j.val - 768, h'⟩ else d ⟨j.val - 768 - 768, by omega⟩

/-- The weights that one leapfrog step uses: the force network `r…` and the scale-and-shift network `v…`. -/
structure Net where
  rW1 : Fin 768 → Fin 1536 → EReal
  rb1 : Fin 768 → EReal
  rW2 : Fin 768 → Fin 768 → EReal
  rb2 : Fin 768 → EReal
  rW3 : Fin 768 → Fin 768 → EReal
  rb3 : Fin 768 → EReal
  rW4 : Fin 768 → Fin 768 → EReal
  rb4 : Fin 768 → EReal
  rW5 : Fin 768 → Fin 768 → EReal
  rb5 : Fin 768 → EReal
  vW1 : Fin 768 → Fin 2304 → EReal
  vb1 : Fin 768 → EReal
  vW2 : Fin 768 → Fin 768 → EReal
  vb2 : Fin 768 → EReal
  vW3 : Fin 768 → Fin 768 → EReal
  vb3 : Fin 768 → EReal
  vW4 : Fin 768 → Fin 768 → EReal
  vb4 : Fin 768 → EReal
  vW5 : Fin 2304 → Fin 768 → EReal
  vb5 : Fin 2304 → EReal

/-- The force network's second hidden layer, on a row of `x` and a row of the active half of `v`. -/
def Net.force2 (N : Net) (x va : Fin 768 → EReal) : Fin 768 → EReal :=
  relu (dense N.rW2 N.rb2 (relu (dense N.rW1 N.rb1 (cat2 x va))))

/-- The force network's third hidden layer. -/
def Net.force3 (N : Net) (x va : Fin 768 → EReal) : Fin 768 → EReal :=
  relu (dense N.rW3 N.rb3 (N.force2 x va))

/-- The force network's output. -/
def Net.force (N : Net) (x va : Fin 768 → EReal) : Fin 768 → EReal :=
  dense N.rW5 N.rb5 (relu (dense N.rW4 N.rb4 (N.force3 x va)))

/-- The scale-and-shift network's first hidden layer, on rows of `x`, of the active half of `v` and of the force. -/
def Net.sqt1 (N : Net) (x va g : Fin 768 → EReal) : Fin 768 → EReal :=
  relu (dense N.vW1 N.vb1 (cat3 x va g))

/-- The scale-and-shift network's second hidden layer. -/
def Net.sqt2 (N : Net) (x va g : Fin 768 → EReal) : Fin 768 → EReal :=
  relu (dense N.vW2 N.vb2 (N.sqt1 x va g))

/-- The scale-and-shift network: its 2304 outputs are the log scale of `v`, the log scale of the force, the shift. -/
def Net.sqt (N : Net) (x va g : Fin 768 → EReal) : Fin 2304 → EReal :=
  dense N.vW5 N.vb5 (fun j => Ideal.tanh (dense N.vW4 N.vb4 (relu (dense N.vW3 N.vb3 (N.sqt2 x va g))) j))

/-- The step size: a quarter of the exponential of its logarithm. -/
def eps (l : EReal) : EReal := Ideal.div (Ideal.exp l) (Ideal.ofBits .f32 0x40800000#32)

/-- The active half of a row: its entries masked. -/
def masked (act v : Fin 768 → EReal) : Fin 768 → EReal := fun j => act j * v j

/-- The networks' outputs for half a step that updates the entries outside the mask `act`. -/
def Net.out (N : Net) (act x v : Fin 768 → EReal) : Fin 2304 → EReal :=
  N.sqt x (masked act v) (N.force x (masked act v))

/-- Half a step's new row of `v`. -/
def Net.halfV (N : Net) (e : EReal) (act upd x v : Fin 768 → EReal) : Fin 768 → EReal := fun j =>
  act j * v j + upd j * (v j * Ideal.exp (N.out act x v ⟨j.val, by omega⟩)
    - e * (N.force x (masked act v) j * Ideal.exp (N.out act x v ⟨768 + j.val, by omega⟩)
      + N.out act x v ⟨1536 + j.val, by omega⟩))

/-- Half a step's contribution to the log determinant. -/
def Net.halfD (N : Net) (act upd x v : Fin 768 → EReal) : EReal :=
  ∑ j : Fin 768, upd j * N.out act x v ⟨j.val, by omega⟩

/-- The complement of a mask. -/
def compl (vm : Fin 768 → EReal) : Fin 768 → EReal := fun j => 1 - vm j

/-- A whole step's new row of `v`: first the entries outside the mask, then those inside. -/
def Net.stepV (N : Net) (e : EReal) (vm x v : Fin 768 → EReal) : Fin 768 → EReal :=
  N.halfV e (compl vm) vm x (N.halfV e vm (compl vm) x v)

/-- A whole step's log determinant, added to the one so far. -/
def Net.stepD (N : Net) (e : EReal) (vm x v : Fin 768 → EReal) (s : EReal) : EReal :=
  s + N.halfD vm (compl vm) x v + N.halfD (compl vm) vm x (N.halfV e vm (compl vm) x v)

end Cert.Flow

end
-- ==== Proof.Rows.lean ====
/-
  Rows, matrices and one-row matrices of an array, as functions of their coordinates.
-/
module

public import proofs.«01_k».proof.Proof.Spec
public import Idealize.ShloMosaic.Lib.Pointwise

@[expose] public section

noncomputable section

namespace Cert.Flow

open Idealize.ShloMosaic Idealize.SL.Sem

/-- Row `r` of a matrix. -/
def row {n k : ℕ} (v : Vec Ideal ⟨2, ![n, k]⟩ .f32) (r : Fin n) : Fin k → EReal := fun j => v (ix2 r j)

/-- A matrix as a function of its two coordinates. -/
def mat {n k : ℕ} (v : Vec Ideal ⟨2, ![n, k]⟩ .f32) : Fin n → Fin k → EReal := fun i j => v (ix2 i j)

/-- A one-row matrix as that row. -/
def vec {k : ℕ} (v : Vec Ideal ⟨2, ![1, k]⟩ .f32) : Fin k → EReal := fun j => v (ix2 0 j)

/-- Plane `0` of a one-plane array. -/
def mat0 {n k : ℕ} (v : Vec Ideal ⟨3, ![1, n, k]⟩ .f32) : Fin n → Fin k → EReal := fun i j => v (ix3 0 i j)

/-- The one row of a one-plane, one-row array. -/
def vec0 {k : ℕ} (v : Vec Ideal ⟨3, ![1, 1, k]⟩ .f32) : Fin k → EReal := fun j => v (ix3 0 0 j)

end Cert.Flow

end
-- ==== Proof.KernelRow.lean ====
/-
  The kernel's vector operations, read one row of a block at a time: an affine layer, the rectifier, the hyperbolic
  tangent, a concatenation of columns, a slice of columns, arithmetic, a row's sum.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.Flow

open Idealize.ShloMosaic Idealize.SL.Sem

namespace K

open Cert.KernelIdeal Cert.KernelIdeal.Gen

/-! ## Layers -/

/-- An affine layer of width 768 on 768 inputs. -/
theorem row_layer (a : FVec Ideal S256x768 .f32) (W : FVec Ideal S768x768 .f32) (b : FVec Ideal S1x768 .f32)
    (r : Fin 256) :
    row (addf (matmul dot_S256x768_S768x768_S256x768_1_1_0_0_n_n none a W (constant S256x768 .f32 0x00000000#32))
      (broadcastTo S256x768 b broadcasts_S1x768_S256x768)) r = dense (mat W) (vec b) (row a r) := by
  funext j
  unfold row dense mat vec
  pointwise

/-- An affine layer of width 768 on 1536 inputs. -/
theorem row_layer2 (a : FVec Ideal S256x1536 .f32) (W : FVec Ideal S768x1536 .f32) (b : FVec Ideal S1x768 .f32)
    (r : Fin 256) :
    row (addf (matmul dot_S256x1536_S768x1536_S256x768_1_1_0_0_n_n none a W (constant S256x768 .f32 0x00000000#32))
      (broadcastTo S256x768 b broadcasts_S1x768_S256x768)) r = dense (mat W) (vec b) (row a r) := by
  funext j
  unfold row dense mat vec
  pointwise

/-- An affine layer of width 768 on 2304 inputs. -/
theorem row_layer3 (a : FVec Ideal S256x2304 .f32) (W : FVec Ideal S768x2304 .f32) (b : FVec Ideal S1x768 .f32)
    (r : Fin 256) :
    row (addf (matmul dot_S256x2304_S768x2304_S256x768_1_1_0_0_n_n none a W (constant S256x768 .f32 0x00000000#32))
      (broadcastTo S256x768 b broadcasts_S1x768_S256x768)) r = dense (mat W) (vec b) (row a r) := by
  funext j
  unfold row dense mat vec
  pointwise

/-- An affine layer of width 2304 on 768 inputs. -/
theorem row_wide (a : FVec Ideal S256x768 .f32) (W : FVec Ideal S2304x768 .f32) (b : FVec Ideal S1x2304 .f32)
    (r : Fin 256) :
    row (addf (matmul dot_S256x768_S2304x768_S256x2304_1_1_0_0_n_n none a W (constant S256x2304 .f32 0x00000000#32))
      (broadcastTo S256x2304 b broadcasts_S1x2304_S256x2304)) r = dense (mat W) (vec b) (row a r) := by
  funext j
  unfold row dense mat vec
  pointwise

/-- The maximum with zero. -/
theorem row_relu (a : FVec Ideal S256x768 .f32) (r : Fin 256) :
    row (maximumf a (broadcast S256x768 (Scalar.ofBits .f32 0x00000000#32))) r = relu (row a r) := by
  funext j
  unfold row relu
  pointwise

/-- The hyperbolic tangent. -/
theorem row_tanh (a : FVec Ideal S256x768 .f32) (r : Fin 256) :
    row (tanh a) r = fun j => Ideal.tanh (row a r j) := by
  funext j
  unfold row
  pointwise

/-! ## Columns put together and cut apart -/

/-- Two blocks side by side. -/
theorem row_cat2 (a b : FVec Ideal S256x768 .f32) (r : Fin 256) :
    row (concatenate S256x1536 1 [⟨S256x768, a⟩, ⟨S256x768, b⟩] concatenates_S256x768_S256x768_S256x1536_d1
      : FVec Ideal S256x1536 .f32) r
      = cat2 (row a r) (row b r) := by
  funext j
  unfold row cat2
  pointwise

/-- Three blocks side by side. -/
theorem row_cat3 (a b d : FVec Ideal S256x768 .f32) (r : Fin 256) :
    row (concatenate S256x2304 1 [⟨S256x768, a⟩, ⟨S256x768, b⟩, ⟨S256x768, d⟩]
      concatenates_S256x768_S256x768_S256x768_S256x2304_d1 : FVec Ideal S256x2304 .f32) r
      = cat3 (row a r) (row b r) (row d r) := by
  funext j
  unfold row cat3
  pointwise

/-- The first third of the columns. -/
theorem row_slice0 (a : FVec Ideal S256x2304 .f32) (r : Fin 256) :
    row (extractStridedSlice S256x768 ![0, 0] a slices_S256x2304_o0_0_S256x768 : FVec Ideal S256x768 .f32) r
      = fun j : Fin 768 => row a r ⟨j.val, by omega⟩ := by
  funext j
  unfold row
  pointwise

/-- The second third of the columns. -/
theorem row_slice1 (a : FVec Ideal S256x2304 .f32) (r : Fin 256) :
    row (extractStridedSlice S256x768 ![0, 768] a slices_S256x2304_o0_768_S256x768 : FVec Ideal S256x768 .f32) r
      = fun j : Fin 768 => row a r ⟨768 + j.val, by omega⟩ := by
  funext j
  unfold row
  pointwise

/-- The last third of the columns. -/
theorem row_slice2 (a : FVec Ideal S256x2304 .f32) (r : Fin 256) :
    row (extractStridedSlice S256x768 ![0, 1536] a slices_S256x2304_o0_1536_S256x768 : FVec Ideal S256x768 .f32) r
      = fun j : Fin 768 => row a r ⟨1536 + j.val, by omega⟩ := by
  funext j
  unfold row
  pointwise

/-! ## Arithmetic -/

/-- A row of an entrywise sum is the sum of the rows. -/
theorem row_add (a b : FVec Ideal S256x768 .f32) (r : Fin 256) :
    row (addf a b) r = fun j => row a r j + row b r j := by
  funext j
  unfold row
  pointwise

/-- A row of an entrywise difference is the difference of the rows. -/
theorem row_sub (a b : FVec Ideal S256x768 .f32) (r : Fin 256) :
    row (subf a b) r = fun j => row a r j - row b r j := by
  funext j
  unfold row
  pointwise

/-- A row of an entrywise product is the product of the rows. -/
theorem row_mul (a b : FVec Ideal S256x768 .f32) (r : Fin 256) :
    row (mulf a b) r = fun j => row a r j * row b r j := by
  funext j
  unfold row
  pointwise

/-- A row of an entrywise exponential is the exponential of the row. -/
theorem row_exp (a : FVec Ideal S256x768 .f32) (r : Fin 256) :
    row (exp a) r = fun j => Ideal.exp (row a r j) := by
  funext j
  unfold row
  pointwise

/-- One number everywhere. -/
theorem row_fill (e : Ideal .f32) (r : Fin 256) : row (broadcast S256x768 e : FVec Ideal S256x768 .f32) r = fun _ => e := by
  funext j
  unfold row
  pointwise

/-- One row repeated down the block. -/
theorem row_spread (b : FVec Ideal S1x768 .f32) (r : Fin 256) :
    row (broadcastTo S256x768 b broadcasts_S1x768_S256x768 : FVec Ideal S256x768 .f32) r = vec b := by
  funext j
  unfold row vec
  pointwise

/-- A row's sum, kept as a column. -/
theorem row_sum (a : FVec Ideal S256x768 .f32) (r : Fin 256) :
    row (shapeCast S256x1 (multiReduction .add [1] S256 a 0x00000000#32 reduces_S256x768_S256 (.inl rfl) rfl)
      shapeCasts_S256_S256x1 : FVec Ideal S256x1 .f32) r = fun _ => ∑ j : Fin 768, row a r j := by
  funext i
  obtain rfl : i = 0 := Subsingleton.elim _ _
  unfold row
  pointwise

/-- Two columns added. -/
theorem row_add1 (a b : FVec Ideal S256x1 .f32) (r : Fin 256) :
    row (addf a b) r = fun j => row a r j + row b r j := by
  funext j
  unfold row
  pointwise

/-! ## Reshapes that drop leading axes of extent one -/

/-- A block of one matrix, its unit axis dropped, is that matrix. -/
theorem mat_cast (W : FVec Ideal S1x768x768 .f32) :
    mat (shapeCast S768x768 W shapeCasts_S1x768x768_S768x768 : FVec Ideal S768x768 .f32) = mat0 W := by
  funext i j
  unfold mat mat0
  pointwise

/-- A block of one matrix, its unit axis dropped, is that matrix. -/
theorem mat_cast2 (W : FVec Ideal S1x768x1536 .f32) :
    mat (shapeCast S768x1536 W shapeCasts_S1x768x1536_S768x1536 : FVec Ideal S768x1536 .f32) = mat0 W := by
  funext i j
  unfold mat mat0
  pointwise

/-- A block of one matrix, its unit axis dropped, is that matrix. -/
theorem mat_cast3 (W : FVec Ideal S1x768x2304 .f32) :
    mat (shapeCast S768x2304 W shapeCasts_S1x768x2304_S768x2304 : FVec Ideal S768x2304 .f32) = mat0 W := by
  funext i j
  unfold mat mat0
  pointwise

/-- A block of one matrix, its unit axis dropped, is that matrix. -/
theorem mat_castw (W : FVec Ideal S1x2304x768 .f32) :
    mat (shapeCast S2304x768 W shapeCasts_S1x2304x768_S2304x768 : FVec Ideal S2304x768 .f32) = mat0 W := by
  funext i j
  unfold mat mat0
  pointwise

/-- A block of one vector, its unit axis dropped, is that vector. -/
theorem vec_cast (b : FVec Ideal S1x1x768 .f32) :
    vec (shapeCast S1x768 b shapeCasts_S1x1x768_S1x768 : FVec Ideal S1x768 .f32) = vec0 b := by
  funext j
  unfold vec vec0
  pointwise

/-- A block of one vector, its unit axis dropped, is that vector. -/
theorem vec_castw (b : FVec Ideal S1x1x2304 .f32) :
    vec (shapeCast S1x2304 b shapeCasts_S1x1x2304_S1x2304 : FVec Ideal S1x2304 .f32) = vec0 b := by
  funext j
  unfold vec vec0
  pointwise

/-- A reshape to the same shape changes nothing. -/
theorem vec_same (b : FVec Ideal S1x768 .f32) : vec (shapeCast S1x768 b shapeCasts_S1x768_S1x768 : FVec Ideal S1x768 .f32) = vec b := by
  funext j
  unfold vec
  pointwise

/-- A reshape to the same shape changes nothing. -/
theorem cast_same (a : FVec Ideal S256x768 .f32) : shapeCast S256x768 a shapeCasts_S256x768_S256x768 = a := by
  ext y
  pointwise

/-- A reshape to the same shape changes nothing. -/
theorem row_same1 (a : FVec Ideal S256x1 .f32) (r : Fin 256) :
    row (shapeCast S256x1 a shapeCasts_S256x1_S256x1 : FVec Ideal S256x1 .f32) r = row a r := by
  funext j
  unfold row
  pointwise

/-! ## The mask and the step size -/

/-- The complement of the mask. -/
theorem vec_compl (m : FVec Ideal S1x768 .f32) :
    vec (subf (broadcast S1x768 (Scalar.ofBits .f32 0x3F800000#32)) m) = compl (vec m) := by
  funext j
  unfold vec compl
  pointwise

/-- The step size. -/
theorem eps_eq (l : Vec Ideal S1x1 .f32) : k0_pay2 l = eps (l (ix2 0 0)) := by
  unfold k0_pay2 eps
  pointwise
  rfl

end K

end Cert.Flow

end
-- ==== Proof.KernelPay.lean ====
/-
  The first region's payloads, one row at a time: each named value of the kernel's body as the flow's function of the
  rows and weights it reads.
-/
module

public import proofs.«01_k».proof.Proof.KernelRow

@[expose] public section

set_option maxRecDepth 16384

noncomputable section

namespace Cert.Flow.K

open Idealize.ShloMosaic Idealize.SL.Sem Cert.KernelIdeal Cert.KernelIdeal.Gen

/-! ## The mask -/

/-- The vector the body keeps as its value 3. -/
theorem vec_pay3 (m : Vec Ideal S1x1x768 .f32) : vec (k0_pay3 m) = vec0 m := by
  simp only [k0_pay3, vec_cast]

/-- The vector the body keeps as its value 4. -/
theorem vec_pay4 (m : Vec Ideal S1x1x768 .f32) : vec (k0_pay4 m) = compl (vec0 m) := by
  simp only [k0_pay4, vec_compl, vec_pay3]

/-- The active half in the first half step. -/
theorem row_pay5 (v : Vec Ideal S256x768 .f32) (m : Vec Ideal S1x1x768 .f32) (r : Fin 256) :
    row (k0_pay5 v m) r = masked (vec0 m) (row v r) := by
  simp only [k0_pay5, row_mul, row_spread, vec_pay3]
  rfl

/-! ## The first half step's networks -/

/-- A row of the body's value 6, by the rows of what it is computed from. -/
theorem row_pay6 (x v : Vec Ideal S256x768 .f32) (m : Vec Ideal S1x1x768 .f32) (W1 : Vec Ideal S1x768x1536 .f32)
    (b1 : Vec Ideal S1x1x768 .f32) (W2 : Vec Ideal S768x768 .f32) (b2 : Vec Ideal S1x768 .f32) (r : Fin 256) :
    row (k0_pay6 x v m W1 b1 W2 b2) r = relu (dense (mat W2) (vec b2) (relu (dense (mat0 W1) (vec0 b1)
      (cat2 (row x r) (masked (vec0 m) (row v r)))))) := by
  simp only [k0_pay6, row_relu, row_layer, row_layer2, row_cat2, row_pay5, mat_cast2, vec_cast, vec_same]

/-- A row of the body's value 7, by the rows of what it is computed from. -/
theorem row_pay7 (a : FVec Ideal S256x768 .f32) (W3 : Vec Ideal S768x768 .f32) (b3 : Vec Ideal S1x768 .f32)
    (W4 : Vec Ideal S768x768 .f32) (b4 : Vec Ideal S1x768 .f32) (W5 : Vec Ideal S1x768x768 .f32)
    (b5 : Vec Ideal S1x1x768 .f32) (r : Fin 256) :
    row (k0_pay7 a W3 (constant S256x768 .f32 0x00000000#32) b3 W4 b4 W5 b5) r = dense (mat0 W5) (vec0 b5)
      (relu (dense (mat W4) (vec b4) (relu (dense (mat W3) (vec b3) (row a r))))) := by
  simp only [k0_pay7, row_relu, row_layer, mat_cast, vec_cast, vec_same]

/-- A row of the body's value 8, by the rows of what it is computed from. -/
theorem row_pay8 (x va a : FVec Ideal S256x768 .f32) (W3 : Vec Ideal S768x768 .f32) (b3 : Vec Ideal S1x768 .f32)
    (W4 : Vec Ideal S768x768 .f32) (b4 : Vec Ideal S1x768 .f32) (W5 : Vec Ideal S1x768x768 .f32)
    (b5 : Vec Ideal S1x1x768 .f32) (U1 : Vec Ideal S1x768x2304 .f32) (c1 : Vec Ideal S1x1x768 .f32) (r : Fin 256) :
    row (k0_pay8 x va a W3 (constant S256x768 .f32 0x00000000#32) b3 W4 b4 W5 b5 U1 c1) r
      = relu (dense (mat0 U1) (vec0 c1) (cat3 (row x r) (row va r)
        (row (k0_pay7 a W3 (constant S256x768 .f32 0x00000000#32) b3 W4 b4 W5 b5) r))) := by
  simp only [k0_pay8, row_relu, row_layer3, row_cat3, mat_cast3, vec_cast]

/-- A row of the body's value 9, by the rows of what it is computed from. -/
theorem row_pay9 (a : FVec Ideal S256x768 .f32) (U2 : Vec Ideal S768x768 .f32) (c2 : Vec Ideal S1x768 .f32)
    (U3 : Vec Ideal S768x768 .f32) (c3 : Vec Ideal S1x768 .f32) (U4 : Vec Ideal S768x768 .f32)
    (c4 : Vec Ideal S1x768 .f32) (U5 : Vec Ideal S1x2304x768 .f32) (c5 : Vec Ideal S1x1x2304 .f32) (r : Fin 256) :
    row (k0_pay9 a U2 (constant S256x768 .f32 0x00000000#32) c2 U3 c3 U4 c4 U5 c5) r
      = dense (mat0 U5) (vec0 c5) (fun j => Ideal.tanh (dense (mat U4) (vec c4) (relu (dense (mat U3) (vec c3)
        (relu (dense (mat U2) (vec c2) (row a r))))) j)) := by
  simp only [k0_pay9, row_wide, row_tanh, row_relu, row_layer, mat_castw, vec_castw, vec_same]

/-! ## The second half step's networks -/

/-- A row of the body's value 16, by the rows of what it is computed from. -/
theorem row_pay16 (x va g1 g2 : FVec Ideal S256x768 .f32) (u : FVec Ideal S1x768 .f32)
    (W1 : Vec Ideal S1x768x1536 .f32) (b1 : Vec Ideal S1x1x768 .f32) (W2 : Vec Ideal S768x768 .f32)
    (b2 : Vec Ideal S1x768 .f32) (W3 : Vec Ideal S768x768 .f32) (b3 : Vec Ideal S1x768 .f32) (r : Fin 256) :
    row (k0_pay16 x u va g1 g2 W1 b1 W2 b2 W3 b3) r = relu (dense (mat W3) (vec b3) (relu (dense (mat W2) (vec b2)
      (relu (dense (mat0 W1) (vec0 b1) (cat2 (row x r) (row (k0_pay15 u va g1 g2) r))))))) := by
  simp only [k0_pay16, row_relu, row_layer, row_layer2, row_cat2, mat_cast2, vec_cast, vec_same]

/-- A row of the body's value 17, by the rows of what it is computed from. -/
theorem row_pay17 (a : FVec Ideal S256x768 .f32) (W4 : Vec Ideal S768x768 .f32) (b4 : Vec Ideal S1x768 .f32)
    (W5 : Vec Ideal S1x768x768 .f32) (b5 : Vec Ideal S1x1x768 .f32) (r : Fin 256) :
    row (k0_pay17 a W4 b4 W5 b5) r = dense (mat0 W5) (vec0 b5) (relu (dense (mat W4) (vec b4) (row a r))) := by
  simp only [k0_pay17, row_relu, row_layer, mat_cast, vec_cast, vec_same]

/-- A row of the body's value 18, by the rows of what it is computed from. -/
theorem row_pay18 (x va a : FVec Ideal S256x768 .f32) (W4 : Vec Ideal S768x768 .f32) (b4 : Vec Ideal S1x768 .f32)
    (W5 : Vec Ideal S1x768x768 .f32) (b5 : Vec Ideal S1x1x768 .f32) (U1 : Vec Ideal S1x768x2304 .f32)
    (c1 : Vec Ideal S1x1x768 .f32) (U2 : Vec Ideal S768x768 .f32) (c2 : Vec Ideal S1x768 .f32) (r : Fin 256) :
    row (k0_pay18 x va a W4 b4 W5 b5 U1 c1 U2 c2) r = relu (dense (mat U2) (vec c2) (relu (dense (mat0 U1) (vec0 c1)
      (cat3 (row x r) (row va r) (row (k0_pay17 a W4 b4 W5 b5) r))))) := by
  simp only [k0_pay18, row_relu, row_layer, row_layer3, row_cat3, mat_cast3, vec_cast, vec_same]

/-- A row of the body's value 19, by the rows of what it is computed from. -/
theorem row_pay19 (a : FVec Ideal S256x768 .f32) (U3 : Vec Ideal S768x768 .f32) (c3 : Vec Ideal S1x768 .f32)
    (U4 : Vec Ideal S768x768 .f32) (c4 : Vec Ideal S1x768 .f32) (U5 : Vec Ideal S1x2304x768 .f32)
    (c5 : Vec Ideal S1x1x2304 .f32) (r : Fin 256) :
    row (k0_pay19 a U3 c3 U4 c4 U5 c5) r = dense (mat0 U5) (vec0 c5) (fun j => Ideal.tanh (dense (mat U4) (vec c4)
      (relu (dense (mat U3) (vec c3) (row a r))) j)) := by
  simp only [k0_pay19, row_wide, row_tanh, row_relu, row_layer, mat_castw, vec_castw, vec_same]

/-! ## The updates -/

/-- The new row of `v` in half a step, from the updated half's mask `u`. -/
theorem row_pay13 (u : FVec Ideal S1x768 .f32) (va g1 g2 : FVec Ideal S256x768 .f32) (r : Fin 256) :
    row (k0_pay13 u va g1 g2) r = fun j => row va r j + vec u j * (row g1 r j - row g2 r j) := by
  simp only [k0_pay13, row_add, row_mul, row_sub, row_spread]

/-- A row of the body's value 15, by the rows of what it is computed from. -/
theorem row_pay15 (u : FVec Ideal S1x768 .f32) (va g1 g2 : FVec Ideal S256x768 .f32) (r : Fin 256) :
    row (k0_pay15 u va g1 g2) r = masked (vec u) (row (k0_pay13 u va g1 g2) r) := by
  simp only [k0_pay15, row_mul, row_spread]
  rfl

/-- A row of the body's value 14, by the rows of what it is computed from. -/
theorem row_pay14 (u : FVec Ideal S1x768 .f32) (s : FVec Ideal S256x768 .f32) (r : Fin 256) :
    row (k0_pay14 u s) r = fun _ => ∑ j : Fin 768, vec u j * row s r j := by
  unfold k0_pay14
  refine (row_sum _ r).trans ?_
  simp only [row_mul, row_spread]

/-- A row of the body's value 22, by the rows of what it is computed from. -/
theorem row_pay22 (u : FVec Ideal S1x768 .f32) (a : FVec Ideal S256x768 .f32) (U3 : Vec Ideal S768x768 .f32)
    (c3 : Vec Ideal S1x768 .f32) (U4 : Vec Ideal S768x768 .f32) (c4 : Vec Ideal S1x768 .f32)
    (U5 : Vec Ideal S1x2304x768 .f32) (c5 : Vec Ideal S1x1x2304 .f32) (r : Fin 256) :
    row (k0_pay22 u a U3 c3 U4 c4 U5 c5) r
      = fun _ => ∑ j : Fin 768, vec u j * row (k0_pay19 a U3 c3 U4 c4 U5 c5) r ⟨j.val, by omega⟩ := by
  unfold k0_pay22
  refine (row_sum _ r).trans ?_
  simp only [k0_pay20, row_mul, row_spread, row_slice0]

/-- The new row of `v` in the second half step. -/
theorem row_pay21 (e : Ideal .f32) (u : FVec Ideal S1x768 .f32) (v va g a : FVec Ideal S256x768 .f32)
    (U3 : Vec Ideal S768x768 .f32) (c3 : Vec Ideal S1x768 .f32) (U4 : Vec Ideal S768x768 .f32)
    (c4 : Vec Ideal S1x768 .f32) (U5 : Vec Ideal S1x2304x768 .f32) (c5 : Vec Ideal S1x1x2304 .f32) (r : Fin 256) :
    row (k0_pay21 e u v va g a U3 c3 U4 c4 U5 c5) r = fun j : Fin 768 => row va r j + vec u j
      * (row v r j * Ideal.exp (row (k0_pay19 a U3 c3 U4 c4 U5 c5) r ⟨j.val, by omega⟩)
        - e * (row g r j * Ideal.exp (row (k0_pay19 a U3 c3 U4 c4 U5 c5) r ⟨768 + j.val, by omega⟩)
          + row (k0_pay19 a U3 c3 U4 c4 U5 c5) r ⟨1536 + j.val, by omega⟩)) := by
  simp only [k0_pay21, k0_pay20, row_add, row_mul, row_sub, row_exp, row_fill, row_spread, row_slice0, row_slice1,
    row_slice2]

/-- A row of the body's value 1, by the rows of what it is computed from. -/
theorem row_pay1 (d1 d2 : FVec Ideal S256x1 .f32) (s : Vec Ideal S256x1 .f32) (r : Fin 256) :
    row (k0_pay1 d1 d2 s) r = fun j => row s r j + row d1 r j + row d2 r j := by
  simp only [k0_pay1, row_add1, row_same1]

end Cert.Flow.K

end
-- ==== Proof.KernelBlock.lean ====
/-
  What the first region's body leaves in its two output blocks, one row at a time: a whole leapfrog step of the row.
-/
module

public import proofs.«01_k».proof.Proof.IdealRegion0
public import proofs.«01_k».proof.Proof.KernelPay
public import Idealize.ShloMosaic.Lib.Pipeline.ValueKit

@[expose] public section

set_option maxRecDepth 16384

noncomputable section

namespace Cert.Flow.K

open Idealize.ShloMosaic Idealize.SL.Sem Cert.KernelIdeal Cert.KernelIdeal.Gen

/-- One step's weights, read off the blocks of the twenty weight windows. -/
def netOf
  (x5 : Vec Ideal S1x768x1536 .f32) (x6 : Vec Ideal S1x1x768 .f32) (x7 : Vec Ideal S768x768 .f32)
  (x8 : Vec Ideal S1x768 .f32) (x9 : Vec Ideal S768x768 .f32) (x10 : Vec Ideal S1x768 .f32)
  (x11 : Vec Ideal S768x768 .f32) (x12 : Vec Ideal S1x768 .f32) (x13 : Vec Ideal S1x768x768 .f32)
  (x14 : Vec Ideal S1x1x768 .f32) (x15 : Vec Ideal S1x768x2304 .f32) (x16 : Vec Ideal S1x1x768 .f32)
  (x17 : Vec Ideal S768x768 .f32) (x18 : Vec Ideal S1x768 .f32) (x19 : Vec Ideal S768x768 .f32)
  (x20 : Vec Ideal S1x768 .f32) (x21 : Vec Ideal S768x768 .f32) (x22 : Vec Ideal S1x768 .f32)
  (x23 : Vec Ideal S1x2304x768 .f32) (x24 : Vec Ideal S1x1x2304 .f32) : Net where
  rW1 := mat0 x5
  rb1 := vec0 x6
  rW2 := mat x7
  rb2 := vec x8
  rW3 := mat x9
  rb3 := vec x10
  rW4 := mat x11
  rb4 := vec x12
  rW5 := mat0 x13
  rb5 := vec0 x14
  vW1 := mat0 x15
  vb1 := vec0 x16
  vW2 := mat x17
  vb2 := vec x18
  vW3 := mat x19
  vb3 := vec x20
  vW4 := mat x21
  vb4 := vec x22
  vW5 := mat0 x23
  vb5 := vec0 x24

/-! ## A load of a whole block reads the block -/

/-- A read of the whole of a block gives the block. -/
theorem ld_0 (x : Vec Ideal S256x768 .f32) : View.ld x r0_0 = x := View.ld_unit_lit _ x (by decide)
/-- A read of the whole of a block gives the block. -/
theorem ld_1 (x : Vec Ideal S1x1 .f32) : View.ld x r0_1 = x := View.ld_unit_lit _ x (by decide)
/-- A read of the whole of a block gives the block. -/
theorem ld_2 (x : Vec Ideal S1x1x768 .f32) : View.ld x r0_2 = x := View.ld_unit_lit _ x (by decide)
/-- A read of the whole of a block gives the block. -/
theorem ld_3 (x : Vec Ideal S1x768x1536 .f32) : View.ld x r0_3 = x := View.ld_unit_lit _ x (by decide)
/-- A read of the whole of a block gives the block. -/
theorem ld_4 (x : Vec Ideal S768x768 .f32) : View.ld x r0_4 = x := View.ld_unit_lit _ x (by decide)
/-- A read of the whole of a block gives the block. -/
theorem ld_5 (x : Vec Ideal S1x768 .f32) : View.ld x r0_5 = x := View.ld_unit_lit _ x (by decide)
/-- A read of the whole of a block gives the block. -/
theorem ld_6 (x : Vec Ideal S1x768x768 .f32) : View.ld x r0_6 = x := View.ld_unit_lit _ x (by decide)
/-- A read of the whole of a block gives the block. -/
theorem ld_7 (x : Vec Ideal S1x768x2304 .f32) : View.ld x r0_7 = x := View.ld_unit_lit _ x (by decide)
/-- A read of the whole of a block gives the block. -/
theorem ld_8 (x : Vec Ideal S1x2304x768 .f32) : View.ld x r0_8 = x := View.ld_unit_lit _ x (by decide)
/-- A read of the whole of a block gives the block. -/
theorem ld_9 (x : Vec Ideal S1x1x2304 .f32) : View.ld x r0_9 = x := View.ld_unit_lit _ x (by decide)
/-- A read of the whole of a block gives the block. -/
theorem ld_10 (x : Vec Ideal S256x1 .f32) : View.ld x r0_10 = x := View.ld_unit_lit _ x (by decide)

variable
  (x0 : Vec Ideal S256x768 .f32) (x1 : Vec Ideal S256x768 .f32) (x2 : Vec Ideal S256x1 .f32)
  (x3 : Vec Ideal S1x1 .f32) (x4 : Vec Ideal S1x1x768 .f32) (x5 : Vec Ideal S1x768x1536 .f32)
  (x6 : Vec Ideal S1x1x768 .f32) (x7 : Vec Ideal S768x768 .f32) (x8 : Vec Ideal S1x768 .f32)
  (x9 : Vec Ideal S768x768 .f32) (x10 : Vec Ideal S1x768 .f32) (x11 : Vec Ideal S768x768 .f32)
  (x12 : Vec Ideal S1x768 .f32) (x13 : Vec Ideal S1x768x768 .f32) (x14 : Vec Ideal S1x1x768 .f32)
  (x15 : Vec Ideal S1x768x2304 .f32) (x16 : Vec Ideal S1x1x768 .f32) (x17 : Vec Ideal S768x768 .f32)
  (x18 : Vec Ideal S1x768 .f32) (x19 : Vec Ideal S768x768 .f32) (x20 : Vec Ideal S1x768 .f32)
  (x21 : Vec Ideal S768x768 .f32) (x22 : Vec Ideal S1x768 .f32) (x23 : Vec Ideal S1x2304x768 .f32)
  (x24 : Vec Ideal S1x1x2304 .f32)
  (r : Fin 256)

/-! ## The first half step -/

/-- The mask of the entries that stay. -/
theorem p24 : vec (k0_pay24 x0 x1 x2 x3 x4 x5 x6 x7 x8 x9 x10 x11 x12 x13 x14 x15 x16 x17 x18 x19 x20 x21 x22 x23 x24)
      = vec0 x4 := by
  simp only [k0_pay24, ld_2, vec_pay3]

/-- Its complement. -/
theorem p25 : vec (k0_pay25 x0 x1 x2 x3 x4 x5 x6 x7 x8 x9 x10 x11 x12 x13 x14 x15 x16 x17 x18 x19 x20 x21 x22 x23 x24)
      = compl (vec0 x4) := by
  simp only [k0_pay25, ld_2, vec_pay4]

/-- The active half. -/
theorem p26 : row (k0_pay26 x0 x1 x2 x3 x4 x5 x6 x7 x8 x9 x10 x11 x12 x13 x14 x15 x16 x17 x18 x19 x20 x21 x22 x23 x24) r
      = masked (vec0 x4) (row x1 r) := by
  simp only [k0_pay26, ld_0, ld_2, row_pay5]

/-- The force network, two layers in. -/
theorem p27 : row (k0_pay27 x0 x1 x2 x3 x4 x5 x6 x7 x8 x9 x10 x11 x12 x13 x14 x15 x16 x17 x18 x19 x20 x21 x22 x23 x24) r
      = (netOf x5 x6 x7 x8 x9 x10 x11 x12 x13 x14 x15 x16 x17 x18 x19 x20 x21 x22 x23 x24).force2 (row x0 r) (masked (vec0 x4) (row x1 r)) := by
  simp only [k0_pay27, ld_0, ld_2, ld_3, ld_4, ld_5, row_pay6]
  rfl

/-- The force. -/
theorem force1 : row (k0_pay7 (k0_pay27 x0 x1 x2 x3 x4 x5 x6 x7 x8 x9 x10 x11 x12 x13 x14 x15 x16 x17 x18 x19 x20 x21 x22 x23 x24)
    x9 (constant S256x768 .f32 0x00000000#32) x10 x11 x12 x13 x14) r
      = (netOf x5 x6 x7 x8 x9 x10 x11 x12 x13 x14 x15 x16 x17 x18 x19 x20 x21 x22 x23 x24).force (row x0 r) (masked (vec0 x4) (row x1 r)) := by
  simp only [row_pay7, p27]
  rfl

/-- The scale-and-shift network, one layer in. -/
theorem p29 : row (k0_pay29 x0 x1 x2 x3 x4 x5 x6 x7 x8 x9 x10 x11 x12 x13 x14 x15 x16 x17 x18 x19 x20 x21 x22 x23 x24) r
      = (netOf x5 x6 x7 x8 x9 x10 x11 x12 x13 x14 x15 x16 x17 x18 x19 x20 x21 x22 x23 x24).sqt1 (row x0 r) (masked (vec0 x4) (row x1 r))
        ((netOf x5 x6 x7 x8 x9 x10 x11 x12 x13 x14 x15 x16 x17 x18 x19 x20 x21 x22 x23 x24).force (row x0 r) (masked (vec0 x4) (row x1 r))) := by
  simp only [k0_pay29, k0_pay23, ld_0, ld_2, ld_4, ld_5, ld_6, ld_7, row_pay8, p26, force1]
  rfl

/-- The scale-and-shift network. -/
theorem sqt1 : row (k0_pay9 (k0_pay29 x0 x1 x2 x3 x4 x5 x6 x7 x8 x9 x10 x11 x12 x13 x14 x15 x16 x17 x18 x19 x20 x21 x22 x23 x24)
    x17 (constant S256x768 .f32 0x00000000#32) x18 x19 x20 x21 x22 x23 x24) r
      = (netOf x5 x6 x7 x8 x9 x10 x11 x12 x13 x14 x15 x16 x17 x18 x19 x20 x21 x22 x23 x24).out (vec0 x4) (row x0 r) (row x1 r) := by
  simp only [row_pay9, p29]
  rfl

/-- The scaled row of `v`. -/
theorem p30 : row (k0_pay30 x0 x1 x2 x3 x4 x5 x6 x7 x8 x9 x10 x11 x12 x13 x14 x15 x16 x17 x18 x19 x20 x21 x22 x23 x24) r
      = fun j : Fin 768 => row x1 r j * Ideal.exp ((netOf x5 x6 x7 x8 x9 x10 x11 x12 x13 x14 x15 x16 x17 x18 x19 x20 x21 x22 x23 x24).out (vec0 x4) (row x0 r) (row x1 r) ⟨j.val, by omega⟩) := by
  simp only [k0_pay30, k0_pay28, k0_pay11, k0_pay10, ld_0, ld_4, ld_5, ld_8, ld_9, row_mul, row_exp, row_slice0, sqt1]

/-- The shift of `v` along the force. -/
theorem p31 : row (k0_pay31 x0 x1 x2 x3 x4 x5 x6 x7 x8 x9 x10 x11 x12 x13 x14 x15 x16 x17 x18 x19 x20 x21 x22 x23 x24) r
      = fun j : Fin 768 => eps (x3 (ix2 0 0)) * ((netOf x5 x6 x7 x8 x9 x10 x11 x12 x13 x14 x15 x16 x17 x18 x19 x20 x21 x22 x23 x24).force (row x0 r) (masked (vec0 x4) (row x1 r)) j
        * Ideal.exp ((netOf x5 x6 x7 x8 x9 x10 x11 x12 x13 x14 x15 x16 x17 x18 x19 x20 x21 x22 x23 x24).out (vec0 x4) (row x0 r) (row x1 r) ⟨768 + j.val, by omega⟩)
        + (netOf x5 x6 x7 x8 x9 x10 x11 x12 x13 x14 x15 x16 x17 x18 x19 x20 x21 x22 x23 x24).out (vec0 x4) (row x0 r) (row x1 r) ⟨1536 + j.val, by omega⟩) := by
  simp only [k0_pay31, k0_pay28, k0_pay23, k0_pay12, ld_1, ld_2, ld_4, ld_5, ld_6, ld_8, ld_9, row_mul, row_add, row_exp,
    row_fill, row_slice1, row_slice2, eps_eq, sqt1, force1]

/-- The row of `v` after the first half step. -/
theorem half1 : row (k0_pay13 (k0_pay25 x0 x1 x2 x3 x4 x5 x6 x7 x8 x9 x10 x11 x12 x13 x14 x15 x16 x17 x18 x19 x20 x21 x22 x23 x24)
    (k0_pay26 x0 x1 x2 x3 x4 x5 x6 x7 x8 x9 x10 x11 x12 x13 x14 x15 x16 x17 x18 x19 x20 x21 x22 x23 x24)
    (k0_pay30 x0 x1 x2 x3 x4 x5 x6 x7 x8 x9 x10 x11 x12 x13 x14 x15 x16 x17 x18 x19 x20 x21 x22 x23 x24)
    (k0_pay31 x0 x1 x2 x3 x4 x5 x6 x7 x8 x9 x10 x11 x12 x13 x14 x15 x16 x17 x18 x19 x20 x21 x22 x23 x24)) r
      = (netOf x5 x6 x7 x8 x9 x10 x11 x12 x13 x14 x15 x16 x17 x18 x19 x20 x21 x22 x23 x24).halfV (eps (x3 (ix2 0 0))) (vec0 x4)
        (compl (vec0 x4)) (row x0 r) (row x1 r) := by
  simp only [row_pay13, p25, p26, p30, p31]
  rfl

/-- The first half step's log determinant. -/
theorem det1 : row (k0_pay14 (k0_pay25 x0 x1 x2 x3 x4 x5 x6 x7 x8 x9 x10 x11 x12 x13 x14 x15 x16 x17 x18 x19 x20 x21 x22 x23 x24) (k0_pay10
    (k0_pay29 x0 x1 x2 x3 x4 x5 x6 x7 x8 x9 x10 x11 x12 x13 x14 x15 x16 x17 x18 x19 x20 x21 x22 x23 x24)
    x17 (constant S256x768 .f32 0x00000000#32) x18 x19 x20 x21 x22 x23 x24)) r
      = fun _ => (netOf x5 x6 x7 x8 x9 x10 x11 x12 x13 x14 x15 x16 x17 x18 x19 x20 x21 x22 x23 x24).halfD (vec0 x4) (compl (vec0 x4)) (row x0 r) (row x1 r) := by
  simp only [row_pay14, k0_pay10, row_slice0, p25, sqt1]
  rfl

/-! ## The second half step -/

/-- The active half. -/
theorem p32 : row (k0_pay32 x0 x1 x2 x3 x4 x5 x6 x7 x8 x9 x10 x11 x12 x13 x14 x15 x16 x17 x18 x19 x20 x21 x22 x23 x24) r
      = masked (compl (vec0 x4)) ((netOf x5 x6 x7 x8 x9 x10 x11 x12 x13 x14 x15 x16 x17 x18 x19 x20 x21 x22 x23 x24).halfV (eps (x3 (ix2 0 0))) (vec0 x4)
        (compl (vec0 x4)) (row x0 r) (row x1 r)) := by
  simp only [k0_pay32, row_pay15, p25, half1]

/-- The force network, three layers in. -/
theorem p33 : row (k0_pay33 x0 x1 x2 x3 x4 x5 x6 x7 x8 x9 x10 x11 x12 x13 x14 x15 x16 x17 x18 x19 x20 x21 x22 x23 x24) r
      = (netOf x5 x6 x7 x8 x9 x10 x11 x12 x13 x14 x15 x16 x17 x18 x19 x20 x21 x22 x23 x24).force3 (row x0 r) (masked (compl (vec0 x4)) ((netOf x5 x6 x7 x8 x9 x10 x11 x12 x13 x14 x15 x16 x17 x18 x19 x20 x21 x22 x23 x24).halfV (eps (x3 (ix2 0 0))) (vec0 x4)
        (compl (vec0 x4)) (row x0 r) (row x1 r))) := by
  simp only [k0_pay33, ld_0, ld_2, ld_3, ld_4, ld_5, row_pay16, row_pay15, p25, half1]
  rfl

/-- The force. -/
theorem force2 : row (k0_pay17 (k0_pay33 x0 x1 x2 x3 x4 x5 x6 x7 x8 x9 x10 x11 x12 x13 x14 x15 x16 x17 x18 x19 x20 x21 x22 x23 x24)
    x11 x12 x13 x14) r
      = (netOf x5 x6 x7 x8 x9 x10 x11 x12 x13 x14 x15 x16 x17 x18 x19 x20 x21 x22 x23 x24).force (row x0 r) (masked (compl (vec0 x4)) ((netOf x5 x6 x7 x8 x9 x10 x11 x12 x13 x14 x15 x16 x17 x18 x19 x20 x21 x22 x23 x24).halfV (eps (x3 (ix2 0 0))) (vec0 x4)
        (compl (vec0 x4)) (row x0 r) (row x1 r))) := by
  simp only [row_pay17, p33]
  rfl

/-- The scale-and-shift network, two layers in. -/
theorem p34 : row (k0_pay34 x0 x1 x2 x3 x4 x5 x6 x7 x8 x9 x10 x11 x12 x13 x14 x15 x16 x17 x18 x19 x20 x21 x22 x23 x24) r
      = (netOf x5 x6 x7 x8 x9 x10 x11 x12 x13 x14 x15 x16 x17 x18 x19 x20 x21 x22 x23 x24).sqt2 (row x0 r) (masked (compl (vec0 x4)) ((netOf x5 x6 x7 x8 x9 x10 x11 x12 x13 x14 x15 x16 x17 x18 x19 x20 x21 x22 x23 x24).halfV (eps (x3 (ix2 0 0))) (vec0 x4)
        (compl (vec0 x4)) (row x0 r) (row x1 r)))
        ((netOf x5 x6 x7 x8 x9 x10 x11 x12 x13 x14 x15 x16 x17 x18 x19 x20 x21 x22 x23 x24).force (row x0 r) (masked (compl (vec0 x4)) ((netOf x5 x6 x7 x8 x9 x10 x11 x12 x13 x14 x15 x16 x17 x18 x19 x20 x21 x22 x23 x24).halfV (eps (x3 (ix2 0 0))) (vec0 x4)
        (compl (vec0 x4)) (row x0 r) (row x1 r)))) := by
  simp only [k0_pay34, ld_0, ld_2, ld_4, ld_5, ld_6, ld_7, row_pay18, p32, force2]
  rfl

/-- The scale-and-shift network. -/
theorem sqt2 : row (k0_pay19 (k0_pay34 x0 x1 x2 x3 x4 x5 x6 x7 x8 x9 x10 x11 x12 x13 x14 x15 x16 x17 x18 x19 x20 x21 x22 x23 x24)
    x19 x20 x21 x22 x23 x24) r
      = (netOf x5 x6 x7 x8 x9 x10 x11 x12 x13 x14 x15 x16 x17 x18 x19 x20 x21 x22 x23 x24).out (compl (vec0 x4)) (row x0 r) ((netOf x5 x6 x7 x8 x9 x10 x11 x12 x13 x14 x15 x16 x17 x18 x19 x20 x21 x22 x23 x24).halfV (eps (x3 (ix2 0 0))) (vec0 x4)
        (compl (vec0 x4)) (row x0 r) (row x1 r)) := by
  simp only [row_pay19, p34]
  rfl

/-! ## The two blocks -/

/-- The block of `v`: a whole step of each row. -/
theorem out0_25_row : row (out0_25 x0 x1 x2 x3 x4 x5 x6 x7 x8 x9 x10 x11 x12 x13 x14 x15 x16 x17 x18 x19 x20 x21 x22 x23 x24) r
      = (netOf x5 x6 x7 x8 x9 x10 x11 x12 x13 x14 x15 x16 x17 x18 x19 x20 x21 x22 x23 x24).stepV (eps (x3 (ix2 0 0))) (vec0 x4) (row x0 r) (row x1 r) := by
  unfold out0_25
  rw [View.canon_cons_unit_lit _ _ _ (by decide)]
  simp only [ld_1, ld_2, ld_4, ld_5, ld_6, ld_8, ld_9, row_pay21, eps_eq, p24, p32, half1, force2, sqt2]
  rfl

/-- The block of log determinants: the step's, added to those so far. -/
theorem out0_26_row : row (out0_26 x0 x1 x2 x3 x4 x5 x6 x7 x8 x9 x10 x11 x12 x13 x14 x15 x16 x17 x18 x19 x20 x21 x22 x23 x24) r
      = fun _ => (netOf x5 x6 x7 x8 x9 x10 x11 x12 x13 x14 x15 x16 x17 x18 x19 x20 x21 x22 x23 x24).stepD (eps (x3 (ix2 0 0))) (vec0 x4) (row x0 r) (row x1 r) (x2 (ix2 r 0)) := by
  funext i
  obtain rfl : i = 0 := Subsingleton.elim _ _
  unfold out0_26
  rw [View.canon_cons_unit_lit _ _ _ (by decide)]
  simp only [k0_pay28, ld_4, ld_5, ld_8, ld_9, ld_10, row_pay1, row_pay22, det1, p24, sqt2]
  rfl

end Cert.Flow.K

end
-- ==== Proof.KernelBlock1.lean ====
/-
  The second call's body is the first call's: it reshapes the velocities to the shape they have, spreads the step size
  over the block at another place, and writes its zero blocks where they are used. So it leaves the same blocks.
-/
module

public import proofs.«01_k».proof.Proof.IdealRegion1
public import proofs.«01_k».proof.Proof.KernelBlock

@[expose] public section

set_option maxRecDepth 16384

noncomputable section

namespace Cert.Flow.K

open Idealize.ShloMosaic Idealize.SL.Sem Cert.KernelIdeal Cert.KernelIdeal.Gen

/-! ## The values its body names, one by one: each is the first call's of the same operands -/

/-- The body of the second call computes, at this place (its value 1), what the body of the first does. -/
theorem e1 (a0 a1 a2) : k1_pay1 (F := Ideal) a0 a1 a2
    = k0_pay1 a0 a1 a2 := rfl

/-- The second call reshapes its velocities to the shape they have. -/
theorem e2 (v) : k1_pay2 (F := Ideal) v = v := cast_same v

/-- The body of the second call computes, at this place (its value 3), what the body of the first does. -/
theorem e3 (a0) : k1_pay3 (F := Ideal) a0
    = k0_pay2 a0 := rfl

/-- The body of the second call computes, at this place (its value 4), what the body of the first does. -/
theorem e4 (a0) : k1_pay4 (F := Ideal) a0
    = k0_pay3 a0 := rfl

/-- The body of the second call computes, at this place (its value 5), what the body of the first does. -/
theorem e5 (a0) : k1_pay5 (F := Ideal) a0
    = k0_pay4 a0 := rfl

/-- The body of the second call computes, at this place (its value 6), what the body of the first does. -/
theorem e6 (a0 a1) : k1_pay6 (F := Ideal) a0 a1
    = k0_pay5 a0 a1 := by
  unfold k1_pay6
  rw [e2]
  rfl

/-- The body of the second call computes, at this place (its value 7), what the body of the first does. -/
theorem e7 (a0 a1 a2 a3 a4 a5 a6) : k1_pay7 (F := Ideal) a0 a1 a2 a3 a4 a5 a6
    = k0_pay6 a0 a1 a2 a3 a4 a5 a6 := by
  unfold k1_pay7
  rw [e6]
  rfl

/-- The body of the second call computes, at this place (its value 8), what the body of the first does. -/
theorem e8 (a0 a1 a2 a3 a4 a5 a6) : k1_pay8 (F := Ideal) a0 a1 a2 a3 a4 a5 a6
    = k0_pay7 a0 a1 (constant S256x768 .f32 0x00000000#32) a2 a3 a4 a5 a6 := rfl

/-- The body of the second call computes, at this place (its value 9), what the body of the first does. -/
theorem e9 (a0 a1 a2 a3 a4 a5 a6 a7 a8 a9 a10) : k1_pay9 (F := Ideal) a0 a1 a2 a3 a4 a5 a6 a7 a8 a9 a10
    = k0_pay8 a0 a1 a2 a3 (constant S256x768 .f32 0x00000000#32) a4 a5 a6 a7 a8 a9 a10 := rfl

/-- The body of the second call computes, at this place (its value 10), what the body of the first does. -/
theorem e10 (a0 a1 a2 a3 a4 a5 a6 a7 a8) : k1_pay10 (F := Ideal) a0 a1 a2 a3 a4 a5 a6 a7 a8
    = k0_pay9 a0 a1 (constant S256x768 .f32 0x00000000#32) a2 a3 a4 a5 a6 a7 a8 := rfl

/-- The body of the second call computes, at this place (its value 11), what the body of the first does. -/
theorem e11 (a0 a1 a2 a3 a4 a5 a6 a7 a8) : k1_pay11 (F := Ideal) a0 a1 a2 a3 a4 a5 a6 a7 a8
    = k0_pay10 a0 a1 (constant S256x768 .f32 0x00000000#32) a2 a3 a4 a5 a6 a7 a8 := rfl

/-- The body of the second call computes, at this place (its value 12), what the body of the first does. -/
theorem e12 (a0 a1 a2 a3 a4 a5 a6 a7 a8 a9) : k1_pay12 (F := Ideal) a0 a1 a2 a3 a4 a5 a6 a7 a8 a9
    = k0_pay11 a0 a1 a2 (constant S256x768 .f32 0x00000000#32) a3 a4 a5 a6 a7 a8 a9 := rfl

/-- The first half step, the step size spread over the block before or after the shift is formed. -/
theorem e15 (u a g e d0 d1 d2 d3 d4 d5 d6 d7 d8 d9) : k1_pay15 (F := Ideal) u a g (k1_pay13 d0 d1 d2 d3 d4 d5 d6 d7 d8 d9) (k1_pay14 e)
    = k0_pay13 u a g (k0_pay12 e d0 d1 d2 (constant S256x768 .f32 0x00000000#32) d3 d4 d5 d6 d7 d8 d9) := rfl

/-- The body of the second call computes, at this place (its value 16), what the body of the first does. -/
theorem e16 (a0 a1) : k1_pay16 (F := Ideal) a0 a1
    = k0_pay14 a0 a1 := rfl

/-- The body of the second call computes, at this place (its value 17), what the body of the first does. -/
theorem e17 (u a g e d0 d1 d2 d3 d4 d5 d6 d7 d8 d9) : k1_pay17 (F := Ideal) u a g (k1_pay13 d0 d1 d2 d3 d4 d5 d6 d7 d8 d9) (k1_pay14 e)
    = k0_pay15 u a g (k0_pay12 e d0 d1 d2 (constant S256x768 .f32 0x00000000#32) d3 d4 d5 d6 d7 d8 d9) := rfl

/-- The body of the second call computes, at this place (its value 18), what the body of the first does. -/
theorem e18 (x u a g e d0 d1 d2 d3 d4 d5 d6 d7 d8 d9 b0 b1 b2 b3 b4 b5) : k1_pay18 (F := Ideal) x u a g (k1_pay13 d0 d1 d2 d3 d4 d5 d6 d7 d8 d9) (k1_pay14 e) b0 b1 b2 b3 b4 b5
    = k0_pay16 x u a g (k0_pay12 e d0 d1 d2 (constant S256x768 .f32 0x00000000#32) d3 d4 d5 d6 d7 d8 d9) b0 b1 b2 b3 b4 b5 := rfl

/-- The body of the second call computes, at this place (its value 19), what the body of the first does. -/
theorem e19 (a0 a1 a2 a3 a4) : k1_pay19 (F := Ideal) a0 a1 a2 a3 a4
    = k0_pay17 a0 a1 a2 a3 a4 := rfl

/-- The body of the second call computes, at this place (its value 20), what the body of the first does. -/
theorem e20 (a0 a1 a2 a3 a4 a5 a6 a7 a8 a9 a10) : k1_pay20 (F := Ideal) a0 a1 a2 a3 a4 a5 a6 a7 a8 a9 a10
    = k0_pay18 a0 a1 a2 a3 a4 a5 a6 a7 a8 a9 a10 := rfl

/-- The body of the second call computes, at this place (its value 21), what the body of the first does. -/
theorem e21 (a0 a1 a2 a3 a4 a5 a6) : k1_pay21 (F := Ideal) a0 a1 a2 a3 a4 a5 a6
    = k0_pay19 a0 a1 a2 a3 a4 a5 a6 := rfl

/-- The body of the second call computes, at this place (its value 22), what the body of the first does. -/
theorem e22 (a0 a1 a2 a3 a4 a5 a6) : k1_pay22 (F := Ideal) a0 a1 a2 a3 a4 a5 a6
    = k0_pay20 a0 a1 a2 a3 a4 a5 a6 := rfl

/-- The body of the second call computes, at this place (its value 23), what the body of the first does. -/
theorem e23 (a0 a1 a2 a3 a4 a5 a6 a7 a8 a9 a10 a11) : k1_pay23 (F := Ideal) a0 a1 a2 a3 a4 a5 a6 a7 a8 a9 a10 a11
    = k0_pay21 a0 a1 a2 a3 a4 a5 a6 a7 a8 a9 a10 a11 := rfl

/-- The body of the second call computes, at this place (its value 24), what the body of the first does. -/
theorem e24 (a0 a1 a2 a3 a4 a5 a6 a7) : k1_pay24 (F := Ideal) a0 a1 a2 a3 a4 a5 a6 a7
    = k0_pay22 a0 a1 a2 a3 a4 a5 a6 a7 := rfl

/-! ## The two blocks -/

variable
  (x0 : Vec Ideal S256x768 .f32) (x1 : Vec Ideal S256x768 .f32) (x2 : Vec Ideal S256x1 .f32)
  (x3 : Vec Ideal S1x1 .f32) (x4 : Vec Ideal S1x1x768 .f32) (x5 : Vec Ideal S1x768x1536 .f32)
  (x6 : Vec Ideal S1x1x768 .f32) (x7 : Vec Ideal S768x768 .f32) (x8 : Vec Ideal S1x768 .f32)
  (x9 : Vec Ideal S768x768 .f32) (x10 : Vec Ideal S1x768 .f32) (x11 : Vec Ideal S768x768 .f32)
  (x12 : Vec Ideal S1x768 .f32) (x13 : Vec Ideal S1x768x768 .f32) (x14 : Vec Ideal S1x1x768 .f32)
  (x15 : Vec Ideal S1x768x2304 .f32) (x16 : Vec Ideal S1x1x768 .f32) (x17 : Vec Ideal S768x768 .f32)
  (x18 : Vec Ideal S1x768 .f32) (x19 : Vec Ideal S768x768 .f32) (x20 : Vec Ideal S1x768 .f32)
  (x21 : Vec Ideal S768x768 .f32) (x22 : Vec Ideal S1x768 .f32) (x23 : Vec Ideal S1x2304x768 .f32)
  (x24 : Vec Ideal S1x1x2304 .f32)

/-- The mask of the entries that stay, its complement, the active half, two layers of the force network. -/
theorem q25 : k1_pay25 x0 x1 x2 x3 x4 x5 x6 x7 x8 x9 x10 x11 x12 x13 x14 x15 x16 x17 x18 x19 x20 x21 x22 x23 x24
    = k0_pay24 x0 x1 x2 x3 x4 x5 x6 x7 x8 x9 x10 x11 x12 x13 x14 x15 x16 x17 x18 x19 x20 x21 x22 x23 x24 := by
  simp only [k1_pay25, k0_pay24, e4]

/-- The body of the second call computes, at this place (its value 26), what the body of the first does. -/
theorem q26 : k1_pay26 x0 x1 x2 x3 x4 x5 x6 x7 x8 x9 x10 x11 x12 x13 x14 x15 x16 x17 x18 x19 x20 x21 x22 x23 x24
    = k0_pay25 x0 x1 x2 x3 x4 x5 x6 x7 x8 x9 x10 x11 x12 x13 x14 x15 x16 x17 x18 x19 x20 x21 x22 x23 x24 := by
  simp only [k1_pay26, k0_pay25, e5]

/-- The body of the second call computes, at this place (its value 27), what the body of the first does. -/
theorem q27 : k1_pay27 x0 x1 x2 x3 x4 x5 x6 x7 x8 x9 x10 x11 x12 x13 x14 x15 x16 x17 x18 x19 x20 x21 x22 x23 x24
    = k0_pay26 x0 x1 x2 x3 x4 x5 x6 x7 x8 x9 x10 x11 x12 x13 x14 x15 x16 x17 x18 x19 x20 x21 x22 x23 x24 := by
  simp only [k1_pay27, k0_pay26, e6]

/-- The body of the second call computes, at this place (its value 28), what the body of the first does. -/
theorem q28 : k1_pay28 x0 x1 x2 x3 x4 x5 x6 x7 x8 x9 x10 x11 x12 x13 x14 x15 x16 x17 x18 x19 x20 x21 x22 x23 x24
    = k0_pay27 x0 x1 x2 x3 x4 x5 x6 x7 x8 x9 x10 x11 x12 x13 x14 x15 x16 x17 x18 x19 x20 x21 x22 x23 x24 := by
  simp only [k1_pay28, k0_pay27, e7]

/-- The scale-and-shift network, one layer in; the scaled velocities. -/
theorem q29 : k1_pay29 x0 x1 x2 x3 x4 x5 x6 x7 x8 x9 x10 x11 x12 x13 x14 x15 x16 x17 x18 x19 x20 x21 x22 x23 x24
    = k0_pay29 x0 x1 x2 x3 x4 x5 x6 x7 x8 x9 x10 x11 x12 x13 x14 x15 x16 x17 x18 x19 x20 x21 x22 x23 x24 := by
  simp only [k1_pay29, k0_pay29, k0_pay23, e9, q27, q28]

/-- The body of the second call computes, at this place (its value 30), what the body of the first does. -/
theorem q30 : k1_pay30 x0 x1 x2 x3 x4 x5 x6 x7 x8 x9 x10 x11 x12 x13 x14 x15 x16 x17 x18 x19 x20 x21 x22 x23 x24
    = k0_pay30 x0 x1 x2 x3 x4 x5 x6 x7 x8 x9 x10 x11 x12 x13 x14 x15 x16 x17 x18 x19 x20 x21 x22 x23 x24 := by
  simp only [k1_pay30, k0_pay30, k0_pay28, e2, e12, q29]

/-- The first half step. -/
theorem q15 (u a g) : k1_pay15 u a g (k1_pay31 x0 x1 x2 x3 x4 x5 x6 x7 x8 x9 x10 x11 x12 x13 x14 x15 x16 x17 x18 x19 x20 x21 x22 x23 x24)
    (k1_pay32 x0 x1 x2 x3 x4 x5 x6 x7 x8 x9 x10 x11 x12 x13 x14 x15 x16 x17 x18 x19 x20 x21 x22 x23 x24)
    = k0_pay13 u a g (k0_pay31 x0 x1 x2 x3 x4 x5 x6 x7 x8 x9 x10 x11 x12 x13 x14 x15 x16 x17 x18 x19 x20 x21 x22 x23 x24) := by
  simp only [k1_pay31, k1_pay32, k0_pay31, k0_pay23, k0_pay28, e15, e3, e8, q28, q29]

/-- The body of the second call computes, at this place (its value 33), what the body of the first does. -/
theorem q33 : k1_pay33 x0 x1 x2 x3 x4 x5 x6 x7 x8 x9 x10 x11 x12 x13 x14 x15 x16 x17 x18 x19 x20 x21 x22 x23 x24
    = k0_pay32 x0 x1 x2 x3 x4 x5 x6 x7 x8 x9 x10 x11 x12 x13 x14 x15 x16 x17 x18 x19 x20 x21 x22 x23 x24 := by
  simp only [k1_pay33, k0_pay32, k1_pay31, k1_pay32, k0_pay31, k0_pay23, k0_pay28, e17, e3, e8, q26, q27, q28, q29, q30]

/-- The body of the second call computes, at this place (its value 34), what the body of the first does. -/
theorem q34 : k1_pay34 x0 x1 x2 x3 x4 x5 x6 x7 x8 x9 x10 x11 x12 x13 x14 x15 x16 x17 x18 x19 x20 x21 x22 x23 x24
    = k0_pay33 x0 x1 x2 x3 x4 x5 x6 x7 x8 x9 x10 x11 x12 x13 x14 x15 x16 x17 x18 x19 x20 x21 x22 x23 x24 := by
  simp only [k1_pay34, k0_pay33, k1_pay31, k1_pay32, k0_pay31, k0_pay23, k0_pay28, e18, e3, e8, q26, q27, q28, q29, q30]

/-- The body of the second call computes, at this place (its value 35), what the body of the first does. -/
theorem q35 : k1_pay35 x0 x1 x2 x3 x4 x5 x6 x7 x8 x9 x10 x11 x12 x13 x14 x15 x16 x17 x18 x19 x20 x21 x22 x23 x24
    = k0_pay34 x0 x1 x2 x3 x4 x5 x6 x7 x8 x9 x10 x11 x12 x13 x14 x15 x16 x17 x18 x19 x20 x21 x22 x23 x24 := by
  simp only [k1_pay35, k0_pay34, e20, q33, q34]

/-- The block of velocities. -/
theorem out1_25_eq : out1_25 x0 x1 x2 x3 x4 x5 x6 x7 x8 x9 x10 x11 x12 x13 x14 x15 x16 x17 x18 x19 x20 x21 x22 x23 x24
    = out0_25 x0 x1 x2 x3 x4 x5 x6 x7 x8 x9 x10 x11 x12 x13 x14 x15 x16 x17 x18 x19 x20 x21 x22 x23 x24 := by
  simp only [out1_25, out0_25, e3, e19, e23, q15, q25, q26, q27, q30, q33, q34, q35]

/-- The block of log determinants. -/
theorem out1_26_eq : out1_26 x0 x1 x2 x3 x4 x5 x6 x7 x8 x9 x10 x11 x12 x13 x14 x15 x16 x17 x18 x19 x20 x21 x22 x23 x24
    = out0_26 x0 x1 x2 x3 x4 x5 x6 x7 x8 x9 x10 x11 x12 x13 x14 x15 x16 x17 x18 x19 x20 x21 x22 x23 x24 := by
  simp only [out1_26, out0_26, k0_pay28, e1, e11, e16, e24, q25, q26, q29, q35]

end Cert.Flow.K

end
-- ==== Proof.Whole.lean ====
/-
  The whole flow over a batch: what the two results hold, as functions of the twenty-four argument arrays. The kernel
  and the reference are each shown to compute `Args.v2` and `Args.s2`.
-/
module

public import proofs.«01_k».proof.Proof.Spec
public import Idealize.ShloMosaic.Lib.Pointwise

@[expose] public section

noncomputable section

namespace Cert.Flow

open Idealize.ShloMosaic

/-- The argument arrays as functions of their coordinates: the batch `x`, `v`, the two masks, the logarithm of the step
    size, the scale-and-shift network `v…` and the force network `r…`, their first and last layers one per step. -/
@[ext] structure Args where
  x : Fin 2048 → Fin 768 → EReal
  v : Fin 2048 → Fin 768 → EReal
  mask : Fin 2 → Fin 768 → EReal
  le : EReal
  vW1 : Fin 3 → Fin 768 → Fin 2304 → EReal
  vb1 : Fin 3 → Fin 768 → EReal
  vW2 : Fin 768 → Fin 768 → EReal
  vb2 : Fin 768 → EReal
  vW3 : Fin 768 → Fin 768 → EReal
  vb3 : Fin 768 → EReal
  vW4 : Fin 768 → Fin 768 → EReal
  vb4 : Fin 768 → EReal
  vW5 : Fin 3 → Fin 2304 → Fin 768 → EReal
  vb5 : Fin 3 → Fin 2304 → EReal
  rW1 : Fin 2 → Fin 768 → Fin 1536 → EReal
  rb1 : Fin 2 → Fin 768 → EReal
  rW2 : Fin 768 → Fin 768 → EReal
  rb2 : Fin 768 → EReal
  rW3 : Fin 768 → Fin 768 → EReal
  rb3 : Fin 768 → EReal
  rW4 : Fin 768 → Fin 768 → EReal
  rb4 : Fin 768 → EReal
  rW5 : Fin 2 → Fin 768 → Fin 768 → EReal
  rb5 : Fin 2 → Fin 768 → EReal

/-- The argument arrays, read. -/
def argsOf
    (a0 : FVec Ideal ⟨2, ![2048, 768]⟩ .f32)
    (a1 : FVec Ideal ⟨2, ![2048, 768]⟩ .f32)
    (a2 : FVec Ideal ⟨2, ![2, 768]⟩ .f32)
    (a3 : FVec Ideal ⟨1, ![1]⟩ .f32)
    (a4 : FVec Ideal ⟨3, ![3, 768, 2304]⟩ .f32)
    (a5 : FVec Ideal ⟨2, ![3, 768]⟩ .f32)
    (a6 : FVec Ideal ⟨2, ![768, 768]⟩ .f32)
    (a7 : FVec Ideal ⟨1, ![768]⟩ .f32)
    (a8 : FVec Ideal ⟨2, ![768, 768]⟩ .f32)
    (a9 : FVec Ideal ⟨1, ![768]⟩ .f32)
    (a10 : FVec Ideal ⟨2, ![768, 768]⟩ .f32)
    (a11 : FVec Ideal ⟨1, ![768]⟩ .f32)
    (a12 : FVec Ideal ⟨3, ![3, 2304, 768]⟩ .f32)
    (a13 : FVec Ideal ⟨2, ![3, 2304]⟩ .f32)
    (a14 : FVec Ideal ⟨3, ![2, 768, 1536]⟩ .f32)
    (a15 : FVec Ideal ⟨2, ![2, 768]⟩ .f32)
    (a16 : FVec Ideal ⟨2, ![768, 768]⟩ .f32)
    (a17 : FVec Ideal ⟨1, ![768]⟩ .f32)
    (a18 : FVec Ideal ⟨2, ![768, 768]⟩ .f32)
    (a19 : FVec Ideal ⟨1, ![768]⟩ .f32)
    (a20 : FVec Ideal ⟨2, ![768, 768]⟩ .f32)
    (a21 : FVec Ideal ⟨1, ![768]⟩ .f32)
    (a22 : FVec Ideal ⟨3, ![2, 768, 768]⟩ .f32)
    (a23 : FVec Ideal ⟨2, ![2, 768]⟩ .f32) : Args where
  x := fun i j => a0 (ix2 i j)
  v := fun i j => a1 (ix2 i j)
  mask := fun i j => a2 (ix2 i j)
  le := a3 (ix1 0)
  vW1 := fun i j k => a4 (ix3 i j k)
  vb1 := fun i j => a5 (ix2 i j)
  vW2 := fun i j => a6 (ix2 i j)
  vb2 := fun j => a7 (ix1 j)
  vW3 := fun i j => a8 (ix2 i j)
  vb3 := fun j => a9 (ix1 j)
  vW4 := fun i j => a10 (ix2 i j)
  vb4 := fun j => a11 (ix1 j)
  vW5 := fun i j k => a12 (ix3 i j k)
  vb5 := fun i j => a13 (ix2 i j)
  rW1 := fun i j k => a14 (ix3 i j k)
  rb1 := fun i j => a15 (ix2 i j)
  rW2 := fun i j => a16 (ix2 i j)
  rb2 := fun j => a17 (ix1 j)
  rW3 := fun i j => a18 (ix2 i j)
  rb3 := fun j => a19 (ix1 j)
  rW4 := fun i j => a20 (ix2 i j)
  rb4 := fun j => a21 (ix1 j)
  rW5 := fun i j k => a22 (ix3 i j k)
  rb5 := fun i j => a23 (ix2 i j)

/-- The weights step `i` uses: the layers shared by the steps, and the step's own first and last layers. -/
def Args.net (A : Args) (i : Fin 2) : Net where
  rW1 := A.rW1 i
  rb1 := A.rb1 i
  rW2 := A.rW2
  rb2 := A.rb2
  rW3 := A.rW3
  rb3 := A.rb3
  rW4 := A.rW4
  rb4 := A.rb4
  rW5 := A.rW5 i
  rb5 := A.rb5 i
  vW1 := A.vW1 (i.castLE (by decide))
  vb1 := A.vb1 (i.castLE (by decide))
  vW2 := A.vW2
  vb2 := A.vb2
  vW3 := A.vW3
  vb3 := A.vb3
  vW4 := A.vW4
  vb4 := A.vb4
  vW5 := A.vW5 (i.castLE (by decide))
  vb5 := A.vb5 (i.castLE (by decide))

/-- Step `i` of chain `r` from the velocities `v`. -/
def Args.stepV (A : Args) (i : Fin 2) (r : Fin 2048) (v : Fin 768 → EReal) : Fin 768 → EReal :=
  (A.net i).stepV (eps A.le) (A.mask i) (A.x r) v

/-- Step `i`'s log determinant for chain `r` from the velocities `v`, added to `s`. -/
def Args.stepD (A : Args) (i : Fin 2) (r : Fin 2048) (v : Fin 768 → EReal) (s : EReal) : EReal :=
  (A.net i).stepD (eps A.le) (A.mask i) (A.x r) v s

/-- Chain `r`'s velocities after the first step. -/
def Args.v1 (A : Args) (r : Fin 2048) : Fin 768 → EReal := A.stepV 0 r (A.v r)

/-- Chain `r`'s log determinant after the first step. -/
def Args.s1 (A : Args) (r : Fin 2048) : EReal := A.stepD 0 r (A.v r) 0

/-- The first result: chain `r`'s velocities after both steps. -/
def Args.v2 (A : Args) (r : Fin 2048) : Fin 768 → EReal := A.stepV 1 r (A.v1 r)

/-- The second result: chain `r`'s log determinant after both steps. -/
def Args.s2 (A : Args) (r : Fin 2048) : EReal := A.stepD 1 r (A.v1 r) (A.s1 r)

end Cert.Flow

end
-- ==== Proof.KernelArr.lean ====
/-
  What each of the two calls reads and writes at one point of its grid, from any contents of the TensorCore's buffers at
  its entry: the weights, the mask and the step size it finds, the rows of the batch, and a row of each block it writes.
-/
module

public import proofs.«01_k».proof.Proof.KernelBlock1
public import proofs.«01_k».proof.Proof.Whole

@[expose] public section

set_option maxRecDepth 16384

noncomputable section

namespace Cert.Flow.K

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The argument arrays as a call finds them, the vectors laid out with an axis of extent one. -/
def argsAt : Args where
  x := fun i j => (V c main_arg0 : FVec Ideal S2048x768 .f32) (ix2 i j)
  v := fun i j => (V c main_arg1 : FVec Ideal S2048x768 .f32) (ix2 i j)
  mask := fun i j => (V c main_v11 : FVec Ideal S2x1x768 .f32) (ix3 i 0 j)
  le := (V c main_v10 : FVec Ideal S1x1 .f32) (ix2 0 0)
  rW1 := fun i j k => (V c main_arg14 : FVec Ideal S2x768x1536 .f32) (ix3 i j k)
  rb1 := fun i j => (V c main_v0 : FVec Ideal S2x1x768 .f32) (ix3 i 0 j)
  rW2 := fun i j => (V c main_arg16 : FVec Ideal S768x768 .f32) (ix2 i j)
  rb2 := fun j => (V c main_v1 : FVec Ideal S1x768 .f32) (ix2 0 j)
  rW3 := fun i j => (V c main_arg18 : FVec Ideal S768x768 .f32) (ix2 i j)
  rb3 := fun j => (V c main_v2 : FVec Ideal S1x768 .f32) (ix2 0 j)
  rW4 := fun i j => (V c main_arg20 : FVec Ideal S768x768 .f32) (ix2 i j)
  rb4 := fun j => (V c main_v3 : FVec Ideal S1x768 .f32) (ix2 0 j)
  rW5 := fun i j k => (V c main_arg22 : FVec Ideal S2x768x768 .f32) (ix3 i j k)
  rb5 := fun i j => (V c main_v4 : FVec Ideal S2x1x768 .f32) (ix3 i 0 j)
  vW1 := fun i j k => (V c main_arg4 : FVec Ideal S3x768x2304 .f32) (ix3 i j k)
  vb1 := fun i j => (V c main_v5 : FVec Ideal S3x1x768 .f32) (ix3 i 0 j)
  vW2 := fun i j => (V c main_arg6 : FVec Ideal S768x768 .f32) (ix2 i j)
  vb2 := fun j => (V c main_v6 : FVec Ideal S1x768 .f32) (ix2 0 j)
  vW3 := fun i j => (V c main_arg8 : FVec Ideal S768x768 .f32) (ix2 i j)
  vb3 := fun j => (V c main_v7 : FVec Ideal S1x768 .f32) (ix2 0 j)
  vW4 := fun i j => (V c main_arg10 : FVec Ideal S768x768 .f32) (ix2 i j)
  vb4 := fun j => (V c main_v8 : FVec Ideal S1x768 .f32) (ix2 0 j)
  vW5 := fun i j k => (V c main_arg12 : FVec Ideal S3x2304x768 .f32) (ix3 i j k)
  vb5 := fun i j => (V c main_v9 : FVec Ideal S3x1x2304 .f32) (ix3 i 0 j)

/-! ## Call 0: where its blocks lie -/

/-- The block index of window 0 of call 0, at grid point `t`. -/
theorem idx0_0 : ∀ t : Fin cfg0.N, win0_0.index t = ![(grid0.coords t 0).val, 0] :=
  (by decide +kernel : ∀ t : Fin grid0.N, _)
/-- The block index of window 1 of call 0, at grid point `t`. -/
theorem idx0_1 : ∀ t : Fin cfg0.N, win0_1.index t = ![(grid0.coords t 0).val, 0] :=
  (by decide +kernel : ∀ t : Fin grid0.N, _)
/-- The block index of window 2 of call 0, at grid point `t`. -/
theorem idx0_2 : ∀ t : Fin cfg0.N, win0_2.index t = ![(grid0.coords t 0).val, 0] :=
  (by decide +kernel : ∀ t : Fin grid0.N, _)
/-- The block index of window 25 of call 0, at grid point `t`. -/
theorem idx0_25 : ∀ t : Fin cfg0.N, win0_25.index t = ![(grid0.coords t 0).val, 0] :=
  (by decide +kernel : ∀ t : Fin grid0.N, _)
/-- The block index of window 26 of call 0, at grid point `t`. -/
theorem idx0_26 : ∀ t : Fin cfg0.N, win0_26.index t = ![(grid0.coords t 0).val, 0] :=
  (by decide +kernel : ∀ t : Fin grid0.N, _)
/-- The block index of window 3 of call 0, at grid point `t`. -/
theorem idx0_3 : ∀ t : Fin cfg0.N, win0_3.index t = ![0, 0] :=
  (by decide +kernel : ∀ t : Fin grid0.N, _)
/-- The block index of window 4 of call 0, at grid point `t`. -/
theorem idx0_4 : ∀ t : Fin cfg0.N, win0_4.index t = ![0, 0, 0] :=
  (by decide +kernel : ∀ t : Fin grid0.N, _)
/-- The block index of window 5 of call 0, at grid point `t`. -/
theorem idx0_5 : ∀ t : Fin cfg0.N, win0_5.index t = ![0, 0, 0] :=
  (by decide +kernel : ∀ t : Fin grid0.N, _)
/-- The block index of window 6 of call 0, at grid point `t`. -/
theorem idx0_6 : ∀ t : Fin cfg0.N, win0_6.index t = ![0, 0, 0] :=
  (by decide +kernel : ∀ t : Fin grid0.N, _)
/-- The block index of window 7 of call 0, at grid point `t`. -/
theorem idx0_7 : ∀ t : Fin cfg0.N, win0_7.index t = ![0, 0] :=
  (by decide +kernel : ∀ t : Fin grid0.N, _)
/-- The block index of window 8 of call 0, at grid point `t`. -/
theorem idx0_8 : ∀ t : Fin cfg0.N, win0_8.index t = ![0, 0] :=
  (by decide +kernel : ∀ t : Fin grid0.N, _)
/-- The block index of window 9 of call 0, at grid point `t`. -/
theorem idx0_9 : ∀ t : Fin cfg0.N, win0_9.index t = ![0, 0] :=
  (by decide +kernel : ∀ t : Fin grid0.N, _)
/-- The block index of window 10 of call 0, at grid point `t`. -/
theorem idx0_10 : ∀ t : Fin cfg0.N, win0_10.index t = ![0, 0] :=
  (by decide +kernel : ∀ t : Fin grid0.N, _)
/-- The block index of window 11 of call 0, at grid point `t`. -/
theorem idx0_11 : ∀ t : Fin cfg0.N, win0_11.index t = ![0, 0] :=
  (by decide +kernel : ∀ t : Fin grid0.N, _)
/-- The block index of window 12 of call 0, at grid point `t`. -/
theorem idx0_12 : ∀ t : Fin cfg0.N, win0_12.index t = ![0, 0] :=
  (by decide +kernel : ∀ t : Fin grid0.N, _)
/-- The block index of window 13 of call 0, at grid point `t`. -/
theorem idx0_13 : ∀ t : Fin cfg0.N, win0_13.index t = ![0, 0, 0] :=
  (by decide +kernel : ∀ t : Fin grid0.N, _)
/-- The block index of window 14 of call 0, at grid point `t`. -/
theorem idx0_14 : ∀ t : Fin cfg0.N, win0_14.index t = ![0, 0, 0] :=
  (by decide +kernel : ∀ t : Fin grid0.N, _)
/-- The block index of window 15 of call 0, at grid point `t`. -/
theorem idx0_15 : ∀ t : Fin cfg0.N, win0_15.index t = ![0, 0, 0] :=
  (by decide +kernel : ∀ t : Fin grid0.N, _)
/-- The block index of window 16 of call 0, at grid point `t`. -/
theorem idx0_16 : ∀ t : Fin cfg0.N, win0_16.index t = ![0, 0, 0] :=
  (by decide +kernel : ∀ t : Fin grid0.N, _)
/-- The block index of window 17 of call 0, at grid point `t`. -/
theorem idx0_17 : ∀ t : Fin cfg0.N, win0_17.index t = ![0, 0] :=
  (by decide +kernel : ∀ t : Fin grid0.N, _)
/-- The block index of window 18 of call 0, at grid point `t`. -/
theorem idx0_18 : ∀ t : Fin cfg0.N, win0_18.index t = ![0, 0] :=
  (by decide +kernel : ∀ t : Fin grid0.N, _)
/-- The block index of window 19 of call 0, at grid point `t`. -/
theorem idx0_19 : ∀ t : Fin cfg0.N, win0_19.index t = ![0, 0] :=
  (by decide +kernel : ∀ t : Fin grid0.N, _)
/-- The block index of window 20 of call 0, at grid point `t`. -/
theorem idx0_20 : ∀ t : Fin cfg0.N, win0_20.index t = ![0, 0] :=
  (by decide +kernel : ∀ t : Fin grid0.N, _)
/-- The block index of window 21 of call 0, at grid point `t`. -/
theorem idx0_21 : ∀ t : Fin cfg0.N, win0_21.index t = ![0, 0] :=
  (by decide +kernel : ∀ t : Fin grid0.N, _)
/-- The block index of window 22 of call 0, at grid point `t`. -/
theorem idx0_22 : ∀ t : Fin cfg0.N, win0_22.index t = ![0, 0] :=
  (by decide +kernel : ∀ t : Fin grid0.N, _)
/-- The block index of window 23 of call 0, at grid point `t`. -/
theorem idx0_23 : ∀ t : Fin cfg0.N, win0_23.index t = ![0, 0, 0] :=
  (by decide +kernel : ∀ t : Fin grid0.N, _)
/-- The block index of window 24 of call 0, at grid point `t`. -/
theorem idx0_24 : ∀ t : Fin cfg0.N, win0_24.index t = ![0, 0, 0] :=
  (by decide +kernel : ∀ t : Fin grid0.N, _)

/-! ## Call 0: its blocks of weights -/

/-- What the body of call 0 reads through window 3, which holds the same block at every grid point. -/
theorem b0_3 (t : Fin cfg0.N) : (iblk0 V c 3 t : Vec Ideal S1x1 .f32) (ix2 0 0) = (argsAt V c).le := by
  blk_ext! [iblk0, argsAt, idx0_3 t]
/-- What the body of call 0 reads through window 4, which holds the same block at every grid point. -/
theorem b0_4 (t : Fin cfg0.N) : vec0 (iblk0 V c 4 t) = (argsAt V c).mask 0 := by
  funext j
  blk_ext! [vec0, iblk0, argsAt, idx0_4 t]
/-- What the body of call 0 reads through window 5, which holds the same block at every grid point. -/
theorem b0_5 (t : Fin cfg0.N) : mat0 (iblk0 V c 5 t) = (argsAt V c).rW1 0 := by
  funext i j
  blk_ext! [mat0, iblk0, argsAt, idx0_5 t]
/-- What the body of call 0 reads through window 6, which holds the same block at every grid point. -/
theorem b0_6 (t : Fin cfg0.N) : vec0 (iblk0 V c 6 t) = (argsAt V c).rb1 0 := by
  funext j
  blk_ext! [vec0, iblk0, argsAt, idx0_6 t]
/-- What the body of call 0 reads through window 7, which holds the same block at every grid point. -/
theorem b0_7 (t : Fin cfg0.N) : mat (iblk0 V c 7 t) = (argsAt V c).rW2 := by
  funext i j
  blk_ext! [mat, iblk0, argsAt, idx0_7 t]
/-- What the body of call 0 reads through window 8, which holds the same block at every grid point. -/
theorem b0_8 (t : Fin cfg0.N) : vec (iblk0 V c 8 t) = (argsAt V c).rb2 := by
  funext j
  blk_ext! [vec, iblk0, argsAt, idx0_8 t]
/-- What the body of call 0 reads through window 9, which holds the same block at every grid point. -/
theorem b0_9 (t : Fin cfg0.N) : mat (iblk0 V c 9 t) = (argsAt V c).rW3 := by
  funext i j
  blk_ext! [mat, iblk0, argsAt, idx0_9 t]
/-- What the body of call 0 reads through window 10, which holds the same block at every grid point. -/
theorem b0_10 (t : Fin cfg0.N) : vec (iblk0 V c 10 t) = (argsAt V c).rb3 := by
  funext j
  blk_ext! [vec, iblk0, argsAt, idx0_10 t]
/-- What the body of call 0 reads through window 11, which holds the same block at every grid point. -/
theorem b0_11 (t : Fin cfg0.N) : mat (iblk0 V c 11 t) = (argsAt V c).rW4 := by
  funext i j
  blk_ext! [mat, iblk0, argsAt, idx0_11 t]
/-- What the body of call 0 reads through window 12, which holds the same block at every grid point. -/
theorem b0_12 (t : Fin cfg0.N) : vec (iblk0 V c 12 t) = (argsAt V c).rb4 := by
  funext j
  blk_ext! [vec, iblk0, argsAt, idx0_12 t]
/-- What the body of call 0 reads through window 13, which holds the same block at every grid point. -/
theorem b0_13 (t : Fin cfg0.N) : mat0 (iblk0 V c 13 t) = (argsAt V c).rW5 0 := by
  funext i j
  blk_ext! [mat0, iblk0, argsAt, idx0_13 t]
/-- What the body of call 0 reads through window 14, which holds the same block at every grid point. -/
theorem b0_14 (t : Fin cfg0.N) : vec0 (iblk0 V c 14 t) = (argsAt V c).rb5 0 := by
  funext j
  blk_ext! [vec0, iblk0, argsAt, idx0_14 t]
/-- What the body of call 0 reads through window 15, which holds the same block at every grid point. -/
theorem b0_15 (t : Fin cfg0.N) : mat0 (iblk0 V c 15 t) = (argsAt V c).vW1 0 := by
  funext i j
  blk_ext! [mat0, iblk0, argsAt, idx0_15 t]
/-- What the body of call 0 reads through window 16, which holds the same block at every grid point. -/
theorem b0_16 (t : Fin cfg0.N) : vec0 (iblk0 V c 16 t) = (argsAt V c).vb1 0 := by
  funext j
  blk_ext! [vec0, iblk0, argsAt, idx0_16 t]
/-- What the body of call 0 reads through window 17, which holds the same block at every grid point. -/
theorem b0_17 (t : Fin cfg0.N) : mat (iblk0 V c 17 t) = (argsAt V c).vW2 := by
  funext i j
  blk_ext! [mat, iblk0, argsAt, idx0_17 t]
/-- What the body of call 0 reads through window 18, which holds the same block at every grid point. -/
theorem b0_18 (t : Fin cfg0.N) : vec (iblk0 V c 18 t) = (argsAt V c).vb2 := by
  funext j
  blk_ext! [vec, iblk0, argsAt, idx0_18 t]
/-- What the body of call 0 reads through window 19, which holds the same block at every grid point. -/
theorem b0_19 (t : Fin cfg0.N) : mat (iblk0 V c 19 t) = (argsAt V c).vW3 := by
  funext i j
  blk_ext! [mat, iblk0, argsAt, idx0_19 t]
/-- What the body of call 0 reads through window 20, which holds the same block at every grid point. -/
theorem b0_20 (t : Fin cfg0.N) : vec (iblk0 V c 20 t) = (argsAt V c).vb3 := by
  funext j
  blk_ext! [vec, iblk0, argsAt, idx0_20 t]
/-- What the body of call 0 reads through window 21, which holds the same block at every grid point. -/
theorem b0_21 (t : Fin cfg0.N) : mat (iblk0 V c 21 t) = (argsAt V c).vW4 := by
  funext i j
  blk_ext! [mat, iblk0, argsAt, idx0_21 t]
/-- What the body of call 0 reads through window 22, which holds the same block at every grid point. -/
theorem b0_22 (t : Fin cfg0.N) : vec (iblk0 V c 22 t) = (argsAt V c).vb4 := by
  funext j
  blk_ext! [vec, iblk0, argsAt, idx0_22 t]
/-- What the body of call 0 reads through window 23, which holds the same block at every grid point. -/
theorem b0_23 (t : Fin cfg0.N) : mat0 (iblk0 V c 23 t) = (argsAt V c).vW5 0 := by
  funext i j
  blk_ext! [mat0, iblk0, argsAt, idx0_23 t]
/-- What the body of call 0 reads through window 24, which holds the same block at every grid point. -/
theorem b0_24 (t : Fin cfg0.N) : vec0 (iblk0 V c 24 t) = (argsAt V c).vb5 0 := by
  funext j
  blk_ext! [vec0, iblk0, argsAt, idx0_24 t]

/-- The weights the call computes with at every point are step 0's. -/
theorem net0 (t : Fin cfg0.N) : netOf (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t)
    = (argsAt V c).net 0 := by
  unfold netOf
  rw [b0_5 V c t, b0_6 V c t, b0_7 V c t, b0_8 V c t, b0_9 V c t, b0_10 V c t, b0_11 V c t, b0_12 V c t, b0_13 V c t, b0_14 V c t, b0_15 V c t, b0_16 V c t, b0_17 V c t, b0_18 V c t, b0_19 V c t, b0_20 V c t, b0_21 V c t, b0_22 V c t, b0_23 V c t, b0_24 V c t]
  rfl

/-! ## Call 0: its blocks of the batch -/

/-- The chain that row `r` of point `t`'s block is. -/
def chain0 (t : Fin cfg0.N) (r : Fin 256) : Fin 2048 :=
  ⟨(grid0.coords t 0).val * 256 + r.val, by have := (grid0.coords t 0).isLt; have h : (grid0.coords t 0).val < 8 := this; omega⟩

/-- What the body of call 0 reads of the position of a chain of its block. -/
theorem x0 (t : Fin cfg0.N) (r : Fin 256) : row (iblk0 V c 0 t) r = (argsAt V c).x (chain0 t r) := by
  funext j
  blk_ext! [row, iblk0, argsAt, chain0, idx0_0 t]

/-- What the body of call 0 reads of the velocity of a chain of its block. -/
theorem v0 (t : Fin cfg0.N) (r : Fin 256) :
    row (iblk0 V c 1 t) r = row (V c main_arg1 : FVec Ideal S2048x768 .f32) (chain0 t r) := by
  funext j
  blk_ext! [row, iblk0, chain0, idx0_1 t]

/-- What the body of call 0 reads of the log determinant of a chain of its block. -/
theorem s0 (t : Fin cfg0.N) (r : Fin 256) :
    (iblk0 V c 2 t : Vec Ideal S256x1 .f32) (ix2 r 0) = (V c main_v12 : FVec Ideal S2048x1 .f32) (ix2 (chain0 t r) 0) := by
  blk_ext! [iblk0, chain0, idx0_2 t]

/-! ## Call 0: a row of each result's block -/

/-- A row of the block of velocities. -/
theorem blk0_25 (t : Fin cfg0.N) (r : Fin 256) : row (out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t)) r
    = (argsAt V c).stepV 0 (chain0 t r) (row (V c main_arg1 : FVec Ideal S2048x768 .f32) (chain0 t r)) := by
  rw [out0_25_row, net0, b0_3, b0_4, x0, v0]
  rfl

/-- A row of the block of log determinants. -/
theorem blk0_26 (t : Fin cfg0.N) (r : Fin 256) : row (out0_26 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t)) r
    = fun _ => (argsAt V c).stepD 0 (chain0 t r) (row (V c main_arg1 : FVec Ideal S2048x768 .f32) (chain0 t r))
      ((V c main_v12 : FVec Ideal S2048x1 .f32) (ix2 (chain0 t r) 0)) := by
  rw [out0_26_row, net0, b0_3, b0_4, x0, v0, s0]
  rfl

/-! ## Call 1: where its blocks lie -/

/-- The block index of window 0 of call 1, at grid point `t`. -/
theorem idx1_0 : ∀ t : Fin cfg1.N, win1_0.index t = ![(grid1.coords t 0).val, 0] :=
  (by decide +kernel : ∀ t : Fin grid1.N, _)
/-- The block index of window 1 of call 1, at grid point `t`. -/
theorem idx1_1 : ∀ t : Fin cfg1.N, win1_1.index t = ![(grid1.coords t 0).val, 0] :=
  (by decide +kernel : ∀ t : Fin grid1.N, _)
/-- The block index of window 2 of call 1, at grid point `t`. -/
theorem idx1_2 : ∀ t : Fin cfg1.N, win1_2.index t = ![(grid1.coords t 0).val, 0] :=
  (by decide +kernel : ∀ t : Fin grid1.N, _)
/-- The block index of window 25 of call 1, at grid point `t`. -/
theorem idx1_25 : ∀ t : Fin cfg1.N, win1_25.index t = ![(grid1.coords t 0).val, 0] :=
  (by decide +kernel : ∀ t : Fin grid1.N, _)
/-- The block index of window 26 of call 1, at grid point `t`. -/
theorem idx1_26 : ∀ t : Fin cfg1.N, win1_26.index t = ![(grid1.coords t 0).val, 0] :=
  (by decide +kernel : ∀ t : Fin grid1.N, _)
/-- The block index of window 3 of call 1, at grid point `t`. -/
theorem idx1_3 : ∀ t : Fin cfg1.N, win1_3.index t = ![0, 0] :=
  (by decide +kernel : ∀ t : Fin grid1.N, _)
/-- The block index of window 4 of call 1, at grid point `t`. -/
theorem idx1_4 : ∀ t : Fin cfg1.N, win1_4.index t = ![1, 0, 0] :=
  (by decide +kernel : ∀ t : Fin grid1.N, _)
/-- The block index of window 5 of call 1, at grid point `t`. -/
theorem idx1_5 : ∀ t : Fin cfg1.N, win1_5.index t = ![1, 0, 0] :=
  (by decide +kernel : ∀ t : Fin grid1.N, _)
/-- The block index of window 6 of call 1, at grid point `t`. -/
theorem idx1_6 : ∀ t : Fin cfg1.N, win1_6.index t = ![1, 0, 0] :=
  (by decide +kernel : ∀ t : Fin grid1.N, _)
/-- The block index of window 7 of call 1, at grid point `t`. -/
theorem idx1_7 : ∀ t : Fin cfg1.N, win1_7.index t = ![0, 0] :=
  (by decide +kernel : ∀ t : Fin grid1.N, _)
/-- The block index of window 8 of call 1, at grid point `t`. -/
theorem idx1_8 : ∀ t : Fin cfg1.N, win1_8.index t = ![0, 0] :=
  (by decide +kernel : ∀ t : Fin grid1.N, _)
/-- The block index of window 9 of call 1, at grid point `t`. -/
theorem idx1_9 : ∀ t : Fin cfg1.N, win1_9.index t = ![0, 0] :=
  (by decide +kernel : ∀ t : Fin grid1.N, _)
/-- The block index of window 10 of call 1, at grid point `t`. -/
theorem idx1_10 : ∀ t : Fin cfg1.N, win1_10.index t = ![0, 0] :=
  (by decide +kernel : ∀ t : Fin grid1.N, _)
/-- The block index of window 11 of call 1, at grid point `t`. -/
theorem idx1_11 : ∀ t : Fin cfg1.N, win1_11.index t = ![0, 0] :=
  (by decide +kernel : ∀ t : Fin grid1.N, _)
/-- The block index of window 12 of call 1, at grid point `t`. -/
theorem idx1_12 : ∀ t : Fin cfg1.N, win1_12.index t = ![0, 0] :=
  (by decide +kernel : ∀ t : Fin grid1.N, _)
/-- The block index of window 13 of call 1, at grid point `t`. -/
theorem idx1_13 : ∀ t : Fin cfg1.N, win1_13.index t = ![1, 0, 0] :=
  (by decide +kernel : ∀ t : Fin grid1.N, _)
/-- The block index of window 14 of call 1, at grid point `t`. -/
theorem idx1_14 : ∀ t : Fin cfg1.N, win1_14.index t = ![1, 0, 0] :=
  (by decide +kernel : ∀ t : Fin grid1.N, _)
/-- The block index of window 15 of call 1, at grid point `t`. -/
theorem idx1_15 : ∀ t : Fin cfg1.N, win1_15.index t = ![1, 0, 0] :=
  (by decide +kernel : ∀ t : Fin grid1.N, _)
/-- The block index of window 16 of call 1, at grid point `t`. -/
theorem idx1_16 : ∀ t : Fin cfg1.N, win1_16.index t = ![1, 0, 0] :=
  (by decide +kernel : ∀ t : Fin grid1.N, _)
/-- The block index of window 17 of call 1, at grid point `t`. -/
theorem idx1_17 : ∀ t : Fin cfg1.N, win1_17.index t = ![0, 0] :=
  (by decide +kernel : ∀ t : Fin grid1.N, _)
/-- The block index of window 18 of call 1, at grid point `t`. -/
theorem idx1_18 : ∀ t : Fin cfg1.N, win1_18.index t = ![0, 0] :=
  (by decide +kernel : ∀ t : Fin grid1.N, _)
/-- The block index of window 19 of call 1, at grid point `t`. -/
theorem idx1_19 : ∀ t : Fin cfg1.N, win1_19.index t = ![0, 0] :=
  (by decide +kernel : ∀ t : Fin grid1.N, _)
/-- The block index of window 20 of call 1, at grid point `t`. -/
theorem idx1_20 : ∀ t : Fin cfg1.N, win1_20.index t = ![0, 0] :=
  (by decide +kernel : ∀ t : Fin grid1.N, _)
/-- The block index of window 21 of call 1, at grid point `t`. -/
theorem idx1_21 : ∀ t : Fin cfg1.N, win1_21.index t = ![0, 0] :=
  (by decide +kernel : ∀ t : Fin grid1.N, _)
/-- The block index of window 22 of call 1, at grid point `t`. -/
theorem idx1_22 : ∀ t : Fin cfg1.N, win1_22.index t = ![0, 0] :=
  (by decide +kernel : ∀ t : Fin grid1.N, _)
/-- The block index of window 23 of call 1, at grid point `t`. -/
theorem idx1_23 : ∀ t : Fin cfg1.N, win1_23.index t = ![1, 0, 0] :=
  (by decide +kernel : ∀ t : Fin grid1.N, _)
/-- The block index of window 24 of call 1, at grid point `t`. -/
theorem idx1_24 : ∀ t : Fin cfg1.N, win1_24.index t = ![1, 0, 0] :=
  (by decide +kernel : ∀ t : Fin grid1.N, _)

/-! ## Call 1: its blocks of weights -/

/-- What the body of call 1 reads through window 3, which holds the same block at every grid point. -/
theorem b1_3 (t : Fin cfg1.N) : (iblk1 V c 3 t : Vec Ideal S1x1 .f32) (ix2 0 0) = (argsAt V c).le := by
  blk_ext! [iblk1, argsAt, idx1_3 t]
/-- What the body of call 1 reads through window 4, which holds the same block at every grid point. -/
theorem b1_4 (t : Fin cfg1.N) : vec0 (iblk1 V c 4 t) = (argsAt V c).mask 1 := by
  funext j
  blk_ext! [vec0, iblk1, argsAt, idx1_4 t]
/-- What the body of call 1 reads through window 5, which holds the same block at every grid point. -/
theorem b1_5 (t : Fin cfg1.N) : mat0 (iblk1 V c 5 t) = (argsAt V c).rW1 1 := by
  funext i j
  blk_ext! [mat0, iblk1, argsAt, idx1_5 t]
/-- What the body of call 1 reads through window 6, which holds the same block at every grid point. -/
theorem b1_6 (t : Fin cfg1.N) : vec0 (iblk1 V c 6 t) = (argsAt V c).rb1 1 := by
  funext j
  blk_ext! [vec0, iblk1, argsAt, idx1_6 t]
/-- What the body of call 1 reads through window 7, which holds the same block at every grid point. -/
theorem b1_7 (t : Fin cfg1.N) : mat (iblk1 V c 7 t) = (argsAt V c).rW2 := by
  funext i j
  blk_ext! [mat, iblk1, argsAt, idx1_7 t]
/-- What the body of call 1 reads through window 8, which holds the same block at every grid point. -/
theorem b1_8 (t : Fin cfg1.N) : vec (iblk1 V c 8 t) = (argsAt V c).rb2 := by
  funext j
  blk_ext! [vec, iblk1, argsAt, idx1_8 t]
/-- What the body of call 1 reads through window 9, which holds the same block at every grid point. -/
theorem b1_9 (t : Fin cfg1.N) : mat (iblk1 V c 9 t) = (argsAt V c).rW3 := by
  funext i j
  blk_ext! [mat, iblk1, argsAt, idx1_9 t]
/-- What the body of call 1 reads through window 10, which holds the same block at every grid point. -/
theorem b1_10 (t : Fin cfg1.N) : vec (iblk1 V c 10 t) = (argsAt V c).rb3 := by
  funext j
  blk_ext! [vec, iblk1, argsAt, idx1_10 t]
/-- What the body of call 1 reads through window 11, which holds the same block at every grid point. -/
theorem b1_11 (t : Fin cfg1.N) : mat (iblk1 V c 11 t) = (argsAt V c).rW4 := by
  funext i j
  blk_ext! [mat, iblk1, argsAt, idx1_11 t]
/-- What the body of call 1 reads through window 12, which holds the same block at every grid point. -/
theorem b1_12 (t : Fin cfg1.N) : vec (iblk1 V c 12 t) = (argsAt V c).rb4 := by
  funext j
  blk_ext! [vec, iblk1, argsAt, idx1_12 t]
/-- What the body of call 1 reads through window 13, which holds the same block at every grid point. -/
theorem b1_13 (t : Fin cfg1.N) : mat0 (iblk1 V c 13 t) = (argsAt V c).rW5 1 := by
  funext i j
  blk_ext! [mat0, iblk1, argsAt, idx1_13 t]
/-- What the body of call 1 reads through window 14, which holds the same block at every grid point. -/
theorem b1_14 (t : Fin cfg1.N) : vec0 (iblk1 V c 14 t) = (argsAt V c).rb5 1 := by
  funext j
  blk_ext! [vec0, iblk1, argsAt, idx1_14 t]
/-- What the body of call 1 reads through window 15, which holds the same block at every grid point. -/
theorem b1_15 (t : Fin cfg1.N) : mat0 (iblk1 V c 15 t) = (argsAt V c).vW1 1 := by
  funext i j
  blk_ext! [mat0, iblk1, argsAt, idx1_15 t]
/-- What the body of call 1 reads through window 16, which holds the same block at every grid point. -/
theorem b1_16 (t : Fin cfg1.N) : vec0 (iblk1 V c 16 t) = (argsAt V c).vb1 1 := by
  funext j
  blk_ext! [vec0, iblk1, argsAt, idx1_16 t]
/-- What the body of call 1 reads through window 17, which holds the same block at every grid point. -/
theorem b1_17 (t : Fin cfg1.N) : mat (iblk1 V c 17 t) = (argsAt V c).vW2 := by
  funext i j
  blk_ext! [mat, iblk1, argsAt, idx1_17 t]
/-- What the body of call 1 reads through window 18, which holds the same block at every grid point. -/
theorem b1_18 (t : Fin cfg1.N) : vec (iblk1 V c 18 t) = (argsAt V c).vb2 := by
  funext j
  blk_ext! [vec, iblk1, argsAt, idx1_18 t]
/-- What the body of call 1 reads through window 19, which holds the same block at every grid point. -/
theorem b1_19 (t : Fin cfg1.N) : mat (iblk1 V c 19 t) = (argsAt V c).vW3 := by
  funext i j
  blk_ext! [mat, iblk1, argsAt, idx1_19 t]
/-- What the body of call 1 reads through window 20, which holds the same block at every grid point. -/
theorem b1_20 (t : Fin cfg1.N) : vec (iblk1 V c 20 t) = (argsAt V c).vb3 := by
  funext j
  blk_ext! [vec, iblk1, argsAt, idx1_20 t]
/-- What the body of call 1 reads through window 21, which holds the same block at every grid point. -/
theorem b1_21 (t : Fin cfg1.N) : mat (iblk1 V c 21 t) = (argsAt V c).vW4 := by
  funext i j
  blk_ext! [mat, iblk1, argsAt, idx1_21 t]
/-- What the body of call 1 reads through window 22, which holds the same block at every grid point. -/
theorem b1_22 (t : Fin cfg1.N) : vec (iblk1 V c 22 t) = (argsAt V c).vb4 := by
  funext j
  blk_ext! [vec, iblk1, argsAt, idx1_22 t]
/-- What the body of call 1 reads through window 23, which holds the same block at every grid point. -/
theorem b1_23 (t : Fin cfg1.N) : mat0 (iblk1 V c 23 t) = (argsAt V c).vW5 1 := by
  funext i j
  blk_ext! [mat0, iblk1, argsAt, idx1_23 t]
/-- What the body of call 1 reads through window 24, which holds the same block at every grid point. -/
theorem b1_24 (t : Fin cfg1.N) : vec0 (iblk1 V c 24 t) = (argsAt V c).vb5 1 := by
  funext j
  blk_ext! [vec0, iblk1, argsAt, idx1_24 t]

/-- The weights the call computes with at every point are step 1's. -/
theorem net1 (t : Fin cfg1.N) : netOf (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    = (argsAt V c).net 1 := by
  unfold netOf
  rw [b1_5 V c t, b1_6 V c t, b1_7 V c t, b1_8 V c t, b1_9 V c t, b1_10 V c t, b1_11 V c t, b1_12 V c t, b1_13 V c t, b1_14 V c t, b1_15 V c t, b1_16 V c t, b1_17 V c t, b1_18 V c t, b1_19 V c t, b1_20 V c t, b1_21 V c t, b1_22 V c t, b1_23 V c t, b1_24 V c t]
  rfl

/-! ## Call 1: its blocks of the batch -/

/-- The chain that row `r` of point `t`'s block is. -/
def chain1 (t : Fin cfg1.N) (r : Fin 256) : Fin 2048 :=
  ⟨(grid1.coords t 0).val * 256 + r.val, by have := (grid1.coords t 0).isLt; have h : (grid1.coords t 0).val < 8 := this; omega⟩

/-- What the body of call 1 reads of the position of a chain of its block. -/
theorem x1 (t : Fin cfg1.N) (r : Fin 256) : row (iblk1 V c 0 t) r = (argsAt V c).x (chain1 t r) := by
  funext j
  blk_ext! [row, iblk1, argsAt, chain1, idx1_0 t]

/-- What the body of call 1 reads of the velocity of a chain of its block. -/
theorem v1 (t : Fin cfg1.N) (r : Fin 256) :
    row (iblk1 V c 1 t) r = row (V c main_v13_0 : FVec Ideal S2048x768 .f32) (chain1 t r) := by
  funext j
  blk_ext! [row, iblk1, chain1, idx1_1 t]

/-- What the body of call 1 reads of the log determinant of a chain of its block. -/
theorem s1 (t : Fin cfg1.N) (r : Fin 256) :
    (iblk1 V c 2 t : Vec Ideal S256x1 .f32) (ix2 r 0) = (V c main_v13_1 : FVec Ideal S2048x1 .f32) (ix2 (chain1 t r) 0) := by
  blk_ext! [iblk1, chain1, idx1_2 t]

/-! ## Call 1: a row of each result's block -/

/-- A row of the block of velocities. -/
theorem blk1_25 (t : Fin cfg1.N) (r : Fin 256) : row (out1_25 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)) r
    = (argsAt V c).stepV 1 (chain1 t r) (row (V c main_v13_0 : FVec Ideal S2048x768 .f32) (chain1 t r)) := by
  rw [out1_25_eq, out0_25_row, net1, b1_3, b1_4, x1, v1]
  rfl

/-- A row of the block of log determinants. -/
theorem blk1_26 (t : Fin cfg1.N) (r : Fin 256) : row (out1_26 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)) r
    = fun _ => (argsAt V c).stepD 1 (chain1 t r) (row (V c main_v13_0 : FVec Ideal S2048x768 .f32) (chain1 t r))
      ((V c main_v13_1 : FVec Ideal S2048x1 .f32) (ix2 (chain1 t r) 0)) := by
  rw [out1_26_eq, out0_26_row, net1, b1_3, b1_4, x1, v1, s1]
  rfl

end Cert.Flow.K

end
-- ==== Proof.KernelWhole.lean ====
/-
  What the arrays hold after each of the two calls, from any contents of the TensorCore's buffers at its entry: every
  chain's velocities and log determinant moved by one step, with the weights, the mask and the step size that the call
  finds in its other arrays.
-/
module

public import proofs.«01_k».proof.Proof.KernelArr

@[expose] public section

set_option maxRecDepth 16384

noncomputable section

namespace Cert.Flow.K

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- An array is its rows. -/
theorem eq_rows {n m : Nat} {X : FVec Ideal ⟨2, ![n, m]⟩ .f32} {R : Fin n → Fin m → EReal} (h : ∀ r, row X r = R r)
    (y : (⟨2, ![n, m]⟩ : Shape).Idx) : X y = R (y 0) (y 1) :=
  (congrArg X (eq_ix2 y)).trans (congrFun (h (y 0)) (y 1))

/-- Every chain's velocities moved by step 0. -/
theorem arr0_25 : (dat0 V c).arrAt 25 cfg0.N = fun i : S2048x768.Idx =>
    (argsAt V c).stepV 0 (i 0) (row (V c main_arg1 : FVec Ideal S2048x768 .f32) (i 0)) (i 1) := by
  refine (dat0 V c).arrAt_eq_of_covers 25 _ (by decide +kernel) fun t hf y => ?_
  blk_simp
  rw [after0_25]
  have hy : (win0_25.blk t).view.emb y = ix2 (chain0 t (y 0)) (y 1) := by
    blk_ext [chain0, idx0_25 t]
  rw [hy]
  exact eq_rows (n := 256) (m := 768) (blk0_25 V c t) y

/-- Every chain's log determinant: step 0's added to the one so far. -/
theorem arr0_26 : (dat0 V c).arrAt 26 cfg0.N = fun i : S2048x1.Idx =>
    (argsAt V c).stepD 0 (i 0) (row (V c main_arg1 : FVec Ideal S2048x768 .f32) (i 0))
      ((V c main_v12 : FVec Ideal S2048x1 .f32) (ix2 (i 0) 0)) := by
  refine (dat0 V c).arrAt_eq_of_covers 26 _ (by decide +kernel) fun t hf y => ?_
  blk_simp
  rw [after0_26]
  have hy : (win0_26.blk t).view.emb y = ix2 (chain0 t (y 0)) (y 1) := by
    blk_ext [chain0, idx0_26 t]
  rw [hy]
  exact eq_rows (n := 256) (m := 1) (blk0_26 V c t) y

/-- Every chain's velocities moved by step 1. -/
theorem arr1_25 : (dat1 V c).arrAt 25 cfg1.N = fun i : S2048x768.Idx =>
    (argsAt V c).stepV 1 (i 0) (row (V c main_v13_0 : FVec Ideal S2048x768 .f32) (i 0)) (i 1) := by
  refine (dat1 V c).arrAt_eq_of_covers 25 _ (by decide +kernel) fun t hf y => ?_
  blk_simp
  rw [after1_25]
  have hy : (win1_25.blk t).view.emb y = ix2 (chain1 t (y 0)) (y 1) := by
    blk_ext [chain1, idx1_25 t]
  rw [hy]
  exact eq_rows (n := 256) (m := 768) (blk1_25 V c t) y

/-- Every chain's log determinant: step 1's added to the one so far. -/
theorem arr1_26 : (dat1 V c).arrAt 26 cfg1.N = fun i : S2048x1.Idx =>
    (argsAt V c).stepD 1 (i 0) (row (V c main_v13_0 : FVec Ideal S2048x768 .f32) (i 0))
      ((V c main_v13_1 : FVec Ideal S2048x1 .f32) (ix2 (i 0) 0)) := by
  refine (dat1 V c).arrAt_eq_of_covers 26 _ (by decide +kernel) fun t hf y => ?_
  blk_simp
  rw [after1_26]
  have hy : (win1_26.blk t).view.emb y = ix2 (chain1 t (y 0)) (y 1) := by
    blk_ext [chain1, idx1_26 t]
  rw [hy]
  exact eq_rows (n := 256) (m := 1) (blk1_26 V c t) y

end Cert.Flow.K

end
-- ==== Proof.IdealRun.lean ====
/- The kernel's run: the contents of the TensorCore's buffers at each boundary between @main's items (`W0` at launch, `W1`
   after the reshapes of the arguments, `W2` and `W3` after the two calls, `W4` at the return), each argument array read back
   through them (`W4_<arg>`), @main as its segments (`segs`), the run (`run_ends`) and the frame (`frame`). -/
module

public import proofs.«01_k».proof.Proof.IdealRegion0
public import proofs.«01_k».proof.Proof.IdealRegion1
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_cst, main_v12]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v15]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)
theorem W4_main_arg15 (c : Dev nD) : W4 m ρ c (Proc.devRef .tc main_arg15) = m ((c : Thread nD τ).loc main_arg15) :=
  W4_args m ρ c main_arg15 (by decide)
theorem W4_main_arg16 (c : Dev nD) : W4 m ρ c (Proc.devRef .tc main_arg16) = m ((c : Thread nD τ).loc main_arg16) :=
  W4_args m ρ c main_arg16 (by decide)
theorem W4_main_arg17 (c : Dev nD) : W4 m ρ c (Proc.devRef .tc main_arg17) = m ((c : Thread nD τ).loc main_arg17) :=
  W4_args m ρ c main_arg17 (by decide)
theorem W4_main_arg18 (c : Dev nD) : W4 m ρ c (Proc.devRef .tc main_arg18) = m ((c : Thread nD τ).loc main_arg18) :=
  W4_args m ρ c main_arg18 (by decide)
theorem W4_main_arg19 (c : Dev nD) : W4 m ρ c (Proc.devRef .tc main_arg19) = m ((c : Thread nD τ).loc main_arg19) :=
  W4_args m ρ c main_arg19 (by decide)
theorem W4_main_arg20 (c : Dev nD) : W4 m ρ c (Proc.devRef .tc main_arg20) = m ((c : Thread nD τ).loc main_arg20) :=
  W4_args m ρ c main_arg20 (by decide)
theorem W4_main_arg21 (c : Dev nD) : W4 m ρ c (Proc.devRef .tc main_arg21) = m ((c : Thread nD τ).loc main_arg21) :=
  W4_args m ρ c main_arg21 (by decide)
theorem W4_main_arg22 (c : Dev nD) : W4 m ρ c (Proc.devRef .tc main_arg22) = m ((c : Thread nD τ).loc main_arg22) :=
  W4_args m ρ c main_arg22 (by decide)
theorem W4_main_arg23 (c : Dev nD) : W4 m ρ c (Proc.devRef .tc main_arg23) = m ((c : Thread nD τ).loc main_arg23) :=
  W4_args m ρ c main_arg23 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has each unscoped buffer at the last boundary's contents `W4` and every semaphore
    counter of the machine at zero: the launch over the segments, the last thread state read against the final state. -/
theorem run_ends : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The buffers at the last boundary's contents have every argument array as launched. -/
theorem args_of_ends {s : MemSt nD τ sig (Elt F)} {c : Dev nD}
    (h : ∀ b ∈ Pipeline.ucRefs τ sig, s.mem (((c : Thread nD τ)).1, b) = W4 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23) :=
  ⟨(h _ (mem_uc main_arg0 (by decide))).trans (W4_main_arg0 m ρ c),
       (h _ (mem_uc main_arg1 (by decide))).trans (W4_main_arg1 m ρ c),
       (h _ (mem_uc main_arg2 (by decide))).trans (W4_main_arg2 m ρ c),
       (h _ (mem_uc main_arg3 (by decide))).trans (W4_main_arg3 m ρ c),
       (h _ (mem_uc main_arg4 (by decide))).trans (W4_main_arg4 m ρ c),
       (h _ (mem_uc main_arg5 (by decide))).trans (W4_main_arg5 m ρ c),
       (h _ (mem_uc main_arg6 (by decide))).trans (W4_main_arg6 m ρ c),
       (h _ (mem_uc main_arg7 (by decide))).trans (W4_main_arg7 m ρ c),
       (h _ (mem_uc main_arg8 (by decide))).trans (W4_main_arg8 m ρ c),
       (h _ (mem_uc main_arg9 (by decide))).trans (W4_main_arg9 m ρ c),
       (h _ (mem_uc main_arg10 (by decide))).trans (W4_main_arg10 m ρ c),
       (h _ (mem_uc main_arg11 (by decide))).trans (W4_main_arg11 m ρ c),
       (h _ (mem_uc main_arg12 (by decide))).trans (W4_main_arg12 m ρ c),
       (h _ (mem_uc main_arg13 (by decide))).trans (W4_main_arg13 m ρ c),
       (h _ (mem_uc main_arg14 (by decide))).trans (W4_main_arg14 m ρ c),
       (h _ (mem_uc main_arg15 (by decide))).trans (W4_main_arg15 m ρ c),
       (h _ (mem_uc main_arg16 (by decide))).trans (W4_main_arg16 m ρ c),
       (h _ (mem_uc main_arg17 (by decide))).trans (W4_main_arg17 m ρ c),
       (h _ (mem_uc main_arg18 (by decide))).trans (W4_main_arg18 m ρ c),
       (h _ (mem_uc main_arg19 (by decide))).trans (W4_main_arg19 m ρ c),
       (h _ (mem_uc main_arg20 (by decide))).trans (W4_main_arg20 m ρ c),
       (h _ (mem_uc main_arg21 (by decide))).trans (W4_main_arg21 m ρ c),
       (h _ (mem_uc main_arg22 (by decide))).trans (W4_main_arg22 m ρ c),
       (h _ (mem_uc main_arg23 (by decide))).trans (W4_main_arg23 m ρ c)⟩

/-- THE FRAME: from any memory with zero counters every weakly fair execution of @main on the TensorCores terminates, nothing
    faulting, and every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun _ h => ⟨fun c => args_of_ends m ρ (h.1 c), h.2⟩) (run_ends m ρ)

end Cert.KernelIdeal.Gen

end
-- ==== Proof.KernelRun.lean ====
/-
  The kernel's two results: the reshaped arguments, the two calls and the last reshape put together. Whatever memory it
  starts from, it ends with every chain's velocities and log determinant after both steps.
-/
module

public import proofs.«01_k».proof.Proof.KernelWhole
public import proofs.«01_k».proof.Proof.IdealRun

@[expose] public section

set_option maxRecDepth 16384

noncomputable section

namespace Cert.Flow.K

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The kernel's argument arrays, read. -/
def args : Args := argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-! ## What the first call finds -/

/-- What value 0 of the launch holds when the first call begins. -/
theorem V1_v0 : (V1 m ρ c main_v0 : FVec Ideal S2x1x768 .f32)
    = shapeCast S2x1x768 (m ((c : Thread nD τ).loc main_arg15) : FVec Ideal S2x768 .f32) shapeCasts_S2x768_S2x1x768 := by
  show StableHlo.after hostOps0 (W0 m ρ c) (Proc.devRef .tc main_v0) = _
  after_results
  rfl
/-- What value 1 of the launch holds when the first call begins. -/
theorem V1_v1 : (V1 m ρ c main_v1 : FVec Ideal S1x768 .f32)
    = shapeCast S1x768 (m ((c : Thread nD τ).loc main_arg17) : FVec Ideal S768 .f32) shapeCasts_S768_S1x768 := by
  show StableHlo.after hostOps0 (W0 m ρ c) (Proc.devRef .tc main_v1) = _
  after_results
  rfl
/-- What value 2 of the launch holds when the first call begins. -/
theorem V1_v2 : (V1 m ρ c main_v2 : FVec Ideal S1x768 .f32)
    = shapeCast S1x768 (m ((c : Thread nD τ).loc main_arg19) : FVec Ideal S768 .f32) shapeCasts_S768_S1x768 := by
  show StableHlo.after hostOps0 (W0 m ρ c) (Proc.devRef .tc main_v2) = _
  after_results
  rfl
/-- What value 3 of the launch holds when the first call begins. -/
theorem V1_v3 : (V1 m ρ c main_v3 : FVec Ideal S1x768 .f32)
    = shapeCast S1x768 (m ((c : Thread nD τ).loc main_arg21) : FVec Ideal S768 .f32) shapeCasts_S768_S1x768 := by
  show StableHlo.after hostOps0 (W0 m ρ c) (Proc.devRef .tc main_v3) = _
  after_results
  rfl
/-- What value 4 of the launch holds when the first call begins. -/
theorem V1_v4 : (V1 m ρ c main_v4 : FVec Ideal S2x1x768 .f32)
    = shapeCast S2x1x768 (m ((c : Thread nD τ).loc main_arg23) : FVec Ideal S2x768 .f32) shapeCasts_S2x768_S2x1x768 := by
  show StableHlo.after hostOps0 (W0 m ρ c) (Proc.devRef .tc main_v4) = _
  after_results
  rfl
/-- What value 5 of the launch holds when the first call begins. -/
theorem V1_v5 : (V1 m ρ c main_v5 : FVec Ideal S3x1x768 .f32)
    = shapeCast S3x1x768 (m ((c : Thread nD τ).loc main_arg5) : FVec Ideal S3x768 .f32) shapeCasts_S3x768_S3x1x768 := by
  show StableHlo.after hostOps0 (W0 m ρ c) (Proc.devRef .tc main_v5) = _
  after_results
  rfl
/-- What value 6 of the launch holds when the first call begins. -/
theorem V1_v6 : (V1 m ρ c main_v6 : FVec Ideal S1x768 .f32)
    = shapeCast S1x768 (m ((c : Thread nD τ).loc main_arg7) : FVec Ideal S768 .f32) shapeCasts_S768_S1x768 := by
  show StableHlo.after hostOps0 (W0 m ρ c) (Proc.devRef .tc main_v6) = _
  after_results
  rfl
/-- What value 7 of the launch holds when the first call begins. -/
theorem V1_v7 : (V1 m ρ c main_v7 : FVec Ideal S1x768 .f32)
    = shapeCast S1x768 (m ((c : Thread nD τ).loc main_arg9) : FVec Ideal S768 .f32) shapeCasts_S768_S1x768 := by
  show StableHlo.after hostOps0 (W0 m ρ c) (Proc.devRef .tc main_v7) = _
  after_results
  rfl
/-- What value 8 of the launch holds when the first call begins. -/
theorem V1_v8 : (V1 m ρ c main_v8 : FVec Ideal S1x768 .f32)
    = shapeCast S1x768 (m ((c : Thread nD τ).loc main_arg11) : FVec Ideal S768 .f32) shapeCasts_S768_S1x768 := by
  show StableHlo.after hostOps0 (W0 m ρ c) (Proc.devRef .tc main_v8) = _
  after_results
  rfl
/-- What value 9 of the launch holds when the first call begins. -/
theorem V1_v9 : (V1 m ρ c main_v9 : FVec Ideal S3x1x2304 .f32)
    = shapeCast S3x1x2304 (m ((c : Thread nD τ).loc main_arg13) : FVec Ideal S3x2304 .f32) shapeCasts_S3x2304_S3x1x2304 := by
  show StableHlo.after hostOps0 (W0 m ρ c) (Proc.devRef .tc main_v9) = _
  after_results
  rfl
/-- What value 10 of the launch holds when the first call begins. -/
theorem V1_v10 : (V1 m ρ c main_v10 : FVec Ideal S1x1 .f32)
    = shapeCast S1x1 (m ((c : Thread nD τ).loc main_arg3) : FVec Ideal S1 .f32) shapeCasts_S1_S1x1 := by
  show StableHlo.after hostOps0 (W0 m ρ c) (Proc.devRef .tc main_v10) = _
  after_results
  rfl
/-- What value 11 of the launch holds when the first call begins. -/
theorem V1_v11 : (V1 m ρ c main_v11 : FVec Ideal S2x1x768 .f32)
    = shapeCast S2x1x768 (m ((c : Thread nD τ).loc main_arg2) : FVec Ideal S2x768 .f32) shapeCasts_S2x768_S2x1x768 := by
  show StableHlo.after hostOps0 (W0 m ρ c) (Proc.devRef .tc main_v11) = _
  after_results
  rfl

/-- The log determinants start from zero. -/
theorem V1_v12 : (V1 m ρ c main_v12 : FVec Ideal S2048x1 .f32)
    = broadcastInDim S2048x1 ![] bcast_S_S2048x1 (constant S_ .f32 0x00000000#32 : FVec Ideal S_ .f32) := by
  show StableHlo.after hostOps0 (W0 m ρ c) (Proc.devRef .tc main_v12) = _
  after_results

/-- What value 12 of the launch holds when the first call begins. -/
theorem V1_v12_apply (r : Fin 2048) : (V1 m ρ c main_v12 : FVec Ideal S2048x1 .f32) (ix2 r 0) = (0 : EReal) := by
  rw [V1_v12]
  pointwise

/-- An argument array that the reshapes leave alone. -/
theorem V1_arg (a : Ref sig .tc) (h : a ∈ argRefs) : V1 m ρ c a = m ((c : Thread nD τ).loc a) := W1_args m ρ c a h

/-- A vector laid out as a one-row matrix, and a matrix with an axis of extent one put between its two. -/
theorem cast_row (b : FVec Ideal S768 .f32) (j : Fin 768) :
    (shapeCast S1x768 b shapeCasts_S768_S1x768 : FVec Ideal S1x768 .f32) (ix2 0 j) = b (ix1 j) := by
  pointwise
/-- A reshape which adds a unit axis keeps the entries. -/
theorem cast_one (b : FVec Ideal S1 .f32) : (shapeCast S1x1 b shapeCasts_S1_S1x1 : FVec Ideal S1x1 .f32) (ix2 0 0) = b (ix1 0) := by
  pointwise
/-- A reshape which adds a unit axis keeps the entries. -/
theorem cast_2_768 (b : FVec Ideal S2x768 .f32) (i : Fin 2) (j : Fin 768) :
    (shapeCast S2x1x768 b shapeCasts_S2x768_S2x1x768 : FVec Ideal S2x1x768 .f32) (ix3 i 0 j) = b (ix2 i j) := by
  pointwise
/-- A reshape which adds a unit axis keeps the entries. -/
theorem cast_3_768 (b : FVec Ideal S3x768 .f32) (i : Fin 3) (j : Fin 768) :
    (shapeCast S3x1x768 b shapeCasts_S3x768_S3x1x768 : FVec Ideal S3x1x768 .f32) (ix3 i 0 j) = b (ix2 i j) := by
  pointwise
/-- A reshape which adds a unit axis keeps the entries. -/
theorem cast_3_2304 (b : FVec Ideal S3x2304 .f32) (i : Fin 3) (j : Fin 2304) :
    (shapeCast S3x1x2304 b shapeCasts_S3x2304_S3x1x2304 : FVec Ideal S3x1x2304 .f32) (ix3 i 0 j) = b (ix2 i j) := by
  pointwise

set_option maxHeartbeats 2000000 in
/-- The first call finds the arguments. -/
theorem args1 : argsAt (V1 m ρ) c = args m c := by
  apply Args.ext
  · funext i j; exact congrFun (V1_arg m ρ c main_arg0 (by decide +kernel)) (ix2 i j)
  · funext i j; exact congrFun (V1_arg m ρ c main_arg1 (by decide +kernel)) (ix2 i j)
  · funext i j; exact (congrFun (V1_v11 m ρ c) (ix3 i 0 j)).trans (cast_2_768 _ i j)
  · exact (congrFun (V1_v10 m ρ c) (ix2 0 0)).trans (cast_one _)
  · funext i j k; exact congrFun (V1_arg m ρ c main_arg4 (by decide +kernel)) (ix3 i j k)
  · funext i j; exact (congrFun (V1_v5 m ρ c) (ix3 i 0 j)).trans (cast_3_768 _ i j)
  · funext i j; exact congrFun (V1_arg m ρ c main_arg6 (by decide +kernel)) (ix2 i j)
  · funext j; exact (congrFun (V1_v6 m ρ c) (ix2 0 j)).trans (cast_row _ j)
  · funext i j; exact congrFun (V1_arg m ρ c main_arg8 (by decide +kernel)) (ix2 i j)
  · funext j; exact (congrFun (V1_v7 m ρ c) (ix2 0 j)).trans (cast_row _ j)
  · funext i j; exact congrFun (V1_arg m ρ c main_arg10 (by decide +kernel)) (ix2 i j)
  · funext j; exact (congrFun (V1_v8 m ρ c) (ix2 0 j)).trans (cast_row _ j)
  · funext i j k; exact congrFun (V1_arg m ρ c main_arg12 (by decide +kernel)) (ix3 i j k)
  · funext i j; exact (congrFun (V1_v9 m ρ c) (ix3 i 0 j)).trans (cast_3_2304 _ i j)
  · funext i j k; exact congrFun (V1_arg m ρ c main_arg14 (by decide +kernel)) (ix3 i j k)
  · funext i j; exact (congrFun (V1_v0 m ρ c) (ix3 i 0 j)).trans (cast_2_768 _ i j)
  · funext i j; exact congrFun (V1_arg m ρ c main_arg16 (by decide +kernel)) (ix2 i j)
  · funext j; exact (congrFun (V1_v1 m ρ c) (ix2 0 j)).trans (cast_row _ j)
  · funext i j; exact congrFun (V1_arg m ρ c main_arg18 (by decide +kernel)) (ix2 i j)
  · funext j; exact (congrFun (V1_v2 m ρ c) (ix2 0 j)).trans (cast_row _ j)
  · funext i j; exact congrFun (V1_arg m ρ c main_arg20 (by decide +kernel)) (ix2 i j)
  · funext j; exact (congrFun (V1_v3 m ρ c) (ix2 0 j)).trans (cast_row _ j)
  · funext i j k; exact congrFun (V1_arg m ρ c main_arg22 (by decide +kernel)) (ix3 i j k)
  · funext i j; exact (congrFun (V1_v4 m ρ c) (ix3 i 0 j)).trans (cast_2_768 _ i j)

/-! ## What the second call finds -/

/-- Arrays that the first call only reads. -/
theorem V2_of (b : Ref sig .tc) (h : ∀ w : Fin cfg0.W, Pipeline.arrRef spec0 w = b → (cfg0.win w).isOut = false) :
    V2 m ρ c b = V1 m ρ c b := W2_of m ρ c b h

set_option maxHeartbeats 2000000 in
/-- The same weights, masks and step size. -/
theorem args2 : argsAt (V2 m ρ) c = args m c := by
  rw [← args1 m ρ c]
  unfold argsAt
  rw [V2_of m ρ c main_arg0 (by decide +kernel),
    V2_of m ρ c main_arg1 (by decide +kernel),
    V2_of m ρ c main_v11 (by decide +kernel),
    V2_of m ρ c main_v10 (by decide +kernel),
    V2_of m ρ c main_arg14 (by decide +kernel),
    V2_of m ρ c main_v0 (by decide +kernel),
    V2_of m ρ c main_arg16 (by decide +kernel),
    V2_of m ρ c main_v1 (by decide +kernel),
    V2_of m ρ c main_arg18 (by decide +kernel),
    V2_of m ρ c main_v2 (by decide +kernel),
    V2_of m ρ c main_arg20 (by decide +kernel),
    V2_of m ρ c main_v3 (by decide +kernel),
    V2_of m ρ c main_arg22 (by decide +kernel),
    V2_of m ρ c main_v4 (by decide +kernel),
    V2_of m ρ c main_arg4 (by decide +kernel),
    V2_of m ρ c main_v5 (by decide +kernel),
    V2_of m ρ c main_arg6 (by decide +kernel),
    V2_of m ρ c main_v6 (by decide +kernel),
    V2_of m ρ c main_arg8 (by decide +kernel),
    V2_of m ρ c main_v7 (by decide +kernel),
    V2_of m ρ c main_arg10 (by decide +kernel),
    V2_of m ρ c main_v8 (by decide +kernel),
    V2_of m ρ c main_arg12 (by decide +kernel),
    V2_of m ρ c main_v9 (by decide +kernel)]

/-- The velocities after the first step. -/
theorem V2_v13_0 (r : Fin 2048) : row (V2 m ρ c main_v13_0 : FVec Ideal S2048x768 .f32) r = (args m c).v1 r := by
  have h : V2 m ρ c main_v13_0 = (dat0 (V1 m ρ) c).arrAt 25 cfg0.N := W2_arr m ρ c 25
  rw [h, arr0_25, args1]
  have hv : row (V1 m ρ c main_arg1 : FVec Ideal S2048x768 .f32) r = (args m c).v r := by
    rw [← args1 m ρ c]; rfl
  funext j
  exact congrArg (fun v => (args m c).stepV 0 r v j) hv

/-- The log determinants after the first step. -/
theorem V2_v13_1 (r : Fin 2048) : (V2 m ρ c main_v13_1 : FVec Ideal S2048x1 .f32) (ix2 r 0) = (args m c).s1 r := by
  have h : V2 m ρ c main_v13_1 = (dat0 (V1 m ρ) c).arrAt 26 cfg0.N := W2_arr m ρ c 26
  rw [h, arr0_26, args1]
  have hv : row (V1 m ρ c main_arg1 : FVec Ideal S2048x768 .f32) r = (args m c).v r := by
    rw [← args1 m ρ c]; rfl
  exact congrArg₂ (fun v s => (args m c).stepD 0 r v s) hv (V1_v12_apply m ρ c r)

/-! ## What it returns -/

/-- The first result. -/
theorem result0 : W4 m ρ c (Proc.devRef .tc main_v14_0) = fun i : S2048x768.Idx => (args m c).v2 (i 0) (i 1) := by
  have h : W3 m ρ c (Proc.devRef .tc main_v14_0) = (dat1 (V2 m ρ) c).arrAt 25 cfg1.N := W3_arr m ρ c 25
  rw [W4_of m ρ c main_v14_0 (by decide), h, arr1_25, args2]
  funext i
  exact congrArg (fun v => (args m c).stepV 1 (i 0) v (i 1)) (V2_v13_0 m ρ c (i 0))

/-- The log determinants as the second call leaves them. -/
theorem last : (W3 m ρ c (Proc.devRef .tc main_v14_1) : FVec Ideal S2048x1 .f32)
    = fun i : S2048x1.Idx => (args m c).s2 (i 0) := by
  have h : W3 m ρ c (Proc.devRef .tc main_v14_1) = (dat1 (V2 m ρ) c).arrAt 26 cfg1.N := W3_arr m ρ c 26
  rw [h, arr1_26, args2]
  funext i
  exact congrArg₂ (fun v s => (args m c).stepD 1 (i 0) v s) (V2_v13_0 m ρ c (i 0)) (V2_v13_1 m ρ c (i 0))

/-- A one-column matrix laid out as a vector. -/
theorem cast_col (b : FVec Ideal S2048x1 .f32) (r : Fin 2048) :
    (shapeCast S2048 b shapeCasts_S2048x1_S2048 : FVec Ideal S2048 .f32) (ix1 r) = b (ix2 r 0) := by
  pointwise

/-- The second result. -/
theorem result1 : W4 m ρ c (Proc.devRef .tc main_v15) = fun i : S2048.Idx => (args m c).s2 (i 0) := by
  have h : W4 m ρ c (Proc.devRef .tc main_v15)
      = (shapeCast S2048 (W3 m ρ c (Proc.devRef .tc main_v14_1) : FVec Ideal S2048x1 .f32) shapeCasts_S2048x1_S2048
        : FVec Ideal S2048 .f32) := by
    show StableHlo.after hostOps2 (W3 m ρ c) (Proc.devRef .tc main_v15) = _
    after_results
    rfl
  rw [h, last]
  funext i
  obtain ⟨r, rfl⟩ : ∃ r, i = ix1 r := ⟨i 0, eq_ix1 i⟩
  exact cast_col _ r

/-- The kernel, from any memory: every weakly fair execution ends with both results as the flow gives them and the
    arguments unchanged. -/
theorem run : θ_run defs (onTc (τ := τ) (main (F := Ideal))) ⟨m, fun _ => 0, ρ⟩ (fun r => ∀ c : Dev nD,
    r.2.mem ((c : Thread nD τ).loc main_v14_0) = (fun i : S2048x768.Idx => (args m c).v2 (i 0) (i 1))
    ∧ r.2.mem ((c : Thread nD τ).loc main_v15) = (fun i : S2048.Idx => (args m c).s2 (i 0))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)) :=
  (θ_run defs _ _).mono (fun _ h c => ⟨(h.1 c _ (mem_uc main_v14_0 (by decide))).trans (result0 m ρ c),
    (h.1 c _ (mem_uc main_v15 (by decide))).trans (result1 m ρ c), args_of_ends m ρ (h.1 c)⟩) (run_ends m ρ)

end Cert.Flow.K

end
-- ==== Proof.RefRow.lean ====
/-
  The reference's array operations, read one row at a time: an affine layer, the rectifier, the hyperbolic tangent, a
  concatenation of columns, a slice of columns, arithmetic, a row's sum; and the weights as it slices them.
-/
module

public import proofs.«01_k».proof.Proof.Gen.ReferenceIdeal.Run
public import proofs.«01_k».proof.Proof.Rows
public import Idealize.ShloMosaic.Lib.Pointwise

@[expose] public section

set_option maxRecDepth 16384

noncomputable section

namespace Cert.Flow.R

open Idealize.ShloMosaic Idealize.SL.Sem Cert.ReferenceIdeal Cert.ReferenceIdeal.Gen

/-! ## Layers -/

/-- An affine layer of width 768 on 768 inputs. -/
theorem row_layer (a : FVec Ideal S2048x768 .f32) (W : FVec Ideal S768x768 .f32) (b : FVec Ideal S1x768 .f32)
    (r : Fin 2048) :
    row (addf (Host.dotGeneral dot_S2048x768_S768x768_S2048x768_1_0_0_1_n_n none a
        (transpose S768x768 [1, 0] W transposes_S768x768_S768x768_1_0 : FVec Ideal S768x768 .f32))
      (broadcastInDim S2048x768 ![0, 1] bcast_S1x768_S2048x768_0_1 b : FVec Ideal S2048x768 .f32)) r
      = dense (mat W) (vec b) (row a r) := by
  funext j
  unfold row dense mat vec
  pointwise

/-- An affine layer of width 768 on 1536 inputs. -/
theorem row_layer2 (a : FVec Ideal S2048x1536 .f32) (W : FVec Ideal S768x1536 .f32) (b : FVec Ideal S1x768 .f32)
    (r : Fin 2048) :
    row (addf (Host.dotGeneral dot_S2048x1536_S1536x768_S2048x768_1_0_0_1_n_n none a
        (transpose S1536x768 [1, 0] W transposes_S768x1536_S1536x768_1_0 : FVec Ideal S1536x768 .f32))
      (broadcastInDim S2048x768 ![0, 1] bcast_S1x768_S2048x768_0_1 b : FVec Ideal S2048x768 .f32)) r
      = dense (mat W) (vec b) (row a r) := by
  funext j
  unfold row dense mat vec
  pointwise

/-- An affine layer of width 768 on 2304 inputs. -/
theorem row_layer3 (a : FVec Ideal S2048x2304 .f32) (W : FVec Ideal S768x2304 .f32) (b : FVec Ideal S1x768 .f32)
    (r : Fin 2048) :
    row (addf (Host.dotGeneral dot_S2048x2304_S2304x768_S2048x768_1_0_0_1_n_n none a
        (transpose S2304x768 [1, 0] W transposes_S768x2304_S2304x768_1_0 : FVec Ideal S2304x768 .f32))
      (broadcastInDim S2048x768 ![0, 1] bcast_S1x768_S2048x768_0_1 b : FVec Ideal S2048x768 .f32)) r
      = dense (mat W) (vec b) (row a r) := by
  funext j
  unfold row dense mat vec
  pointwise

/-- An affine layer of width 2304 on 768 inputs. -/
theorem row_wide (a : FVec Ideal S2048x768 .f32) (W : FVec Ideal S2304x768 .f32) (b : FVec Ideal S1x2304 .f32)
    (r : Fin 2048) :
    row (addf (Host.dotGeneral dot_S2048x768_S768x2304_S2048x2304_1_0_0_1_n_n none a
        (transpose S768x2304 [1, 0] W transposes_S2304x768_S768x2304_1_0 : FVec Ideal S768x2304 .f32))
      (broadcastInDim S2048x2304 ![0, 1] bcast_S1x2304_S2048x2304_0_1 b : FVec Ideal S2048x2304 .f32)) r
      = dense (mat W) (vec b) (row a r) := by
  funext j
  unfold row dense mat vec
  pointwise

/-- The maximum with zero. -/
theorem row_relu (a : FVec Ideal S2048x768 .f32) (r : Fin 2048) :
    row (maximumf a (broadcastInDim S2048x768 ![] bcast_S_S2048x768 (constant S_ .f32 0x00000000#32) : FVec Ideal S2048x768 .f32)) r
      = relu (row a r) := by
  funext j
  unfold row relu
  pointwise

/-- The hyperbolic tangent. -/
theorem row_tanh (a : FVec Ideal S2048x768 .f32) (r : Fin 2048) :
    row (Host.tanh a) r
      = fun j => Ideal.tanh (row a r j) := by
  funext j
  unfold row
  pointwise

/-! ## Columns put together and cut apart -/

/-- Two arrays side by side. -/
theorem row_cat2 (a b : FVec Ideal S2048x768 .f32) (r : Fin 2048) :
    row (concatenate S2048x1536 1 [⟨S2048x768, a⟩, ⟨S2048x768, b⟩] concatenates_S2048x768_S2048x768_S2048x1536_d1
      : FVec Ideal S2048x1536 .f32) r
      = cat2 (row a r) (row b r) := by
  funext j
  unfold row cat2
  pointwise

/-- Three arrays side by side. -/
theorem row_cat3 (a b d : FVec Ideal S2048x768 .f32) (r : Fin 2048) :
    row (concatenate S2048x2304 1 [⟨S2048x768, a⟩, ⟨S2048x768, b⟩, ⟨S2048x768, d⟩]
      concatenates_S2048x768_S2048x768_S2048x768_S2048x2304_d1 : FVec Ideal S2048x2304 .f32) r
      = cat3 (row a r) (row b r) (row d r) := by
  funext j
  unfold row cat3
  pointwise

/-- The first third of the columns. -/
theorem row_slice0 (a : FVec Ideal S2048x2304 .f32) (r : Fin 2048) :
    row (extractStridedSlice S2048x768 ![0, 0] a slices_S2048x2304_S2048x768_0_0 : FVec Ideal S2048x768 .f32) r
      = fun j : Fin 768 => row a r ⟨j.val, by omega⟩ := by
  funext j
  unfold row
  pointwise

/-- The second third of the columns. -/
theorem row_slice1 (a : FVec Ideal S2048x2304 .f32) (r : Fin 2048) :
    row (extractStridedSlice S2048x768 ![0, 768] a slices_S2048x2304_S2048x768_0_768 : FVec Ideal S2048x768 .f32) r
      = fun j : Fin 768 => row a r ⟨768 + j.val, by omega⟩ := by
  funext j
  unfold row
  pointwise

/-- The last third of the columns. -/
theorem row_slice2 (a : FVec Ideal S2048x2304 .f32) (r : Fin 2048) :
    row (extractStridedSlice S2048x768 ![0, 1536] a slices_S2048x2304_S2048x768_0_1536 : FVec Ideal S2048x768 .f32) r
      = fun j : Fin 768 => row a r ⟨1536 + j.val, by omega⟩ := by
  funext j
  unfold row
  pointwise

/-! ## Arithmetic -/

/-- A row of an entrywise sum is the sum of the rows. -/
theorem row_add (a b : FVec Ideal S2048x768 .f32) (r : Fin 2048) :
    row (addf a b) r = fun j => row a r j + row b r j := by
  funext j
  unfold row
  pointwise

/-- A row of an entrywise difference is the difference of the rows. -/
theorem row_sub (a b : FVec Ideal S2048x768 .f32) (r : Fin 2048) :
    row (subf a b) r = fun j => row a r j - row b r j := by
  funext j
  unfold row
  pointwise

/-- A row of an entrywise product is the product of the rows. -/
theorem row_mul (a b : FVec Ideal S2048x768 .f32) (r : Fin 2048) :
    row (mulf a b) r = fun j => row a r j * row b r j := by
  funext j
  unfold row
  pointwise

/-- A row of an entrywise exponential is the exponential of the row. -/
theorem row_exp (a : FVec Ideal S2048x768 .f32) (r : Fin 2048) :
    row (Host.exp a) r = fun j => Ideal.exp (row a r j) := by
  funext j
  unfold row
  pointwise

/-- One number everywhere. -/
theorem row_fill (e : FVec Ideal S1 .f32) (r : Fin 2048) :
    row (broadcastInDim S2048x768 ![0, 1] bcast_S1x1_S2048x768_0_1
      (broadcastInDim S1x1 ![1] bcast_S1_S1x1_1 e : FVec Ideal S1x1 .f32) : FVec Ideal S2048x768 .f32) r
      = fun _ => e (ix1 0) := by
  funext j
  unfold row
  pointwise

/-- One row repeated down the array. -/
theorem row_spread (b : FVec Ideal S1x768 .f32) (r : Fin 2048) :
    row (broadcastInDim S2048x768 ![0, 1] bcast_S1x768_S2048x768_0_1 b : FVec Ideal S2048x768 .f32) r
      = vec b := by
  funext j
  unfold row vec
  pointwise

/-- A row's sum. -/
theorem row_sum (a : FVec Ideal S2048x768 .f32) (r : Fin 2048) :
    Host.reduceAdd a (constant S_ .f32 0x00000000#32) reducesTo_S2048x768_S2048_d1 h_S_ (ix1 r)
      = ∑ j : Fin 768, row a r j := by
  unfold row
  pointwise

/-! ## The weights -/

/-- A vector laid out as a one-row matrix. -/
theorem vec_row (b : FVec Ideal S768 .f32) :
    vec (broadcastInDim S1x768 ![1] bcast_S768_S1x768_1 b : FVec Ideal S1x768 .f32) = fun j => b (ix1 j) := by
  funext j
  unfold vec
  pointwise

/-- A wide vector laid out as a one-row matrix. -/
theorem vec_roww (b : FVec Ideal S2304 .f32) :
    vec (broadcastInDim S1x2304 ![1] bcast_S2304_S1x2304_1 b : FVec Ideal S1x2304 .f32) = fun j => b (ix1 j) := by
  funext j
  unfold vec
  pointwise

/-- Row 0 of 2 rows of 768. -/
theorem pick_2_768_0 (W : FVec Ideal S2x768 .f32) (j : Fin 768) :
    (shapeCast S768 (extractStridedSlice S1x768 ![0, 0] W slices_S2x768_S1x768_0_0 : FVec Ideal S1x768 .f32)
      shapeCasts_S1x768_S768 : FVec Ideal S768 .f32) (ix1 j) = W (ix2 0 j) := by
  pointwise

/-- Row 1 of 2 rows of 768. -/
theorem pick_2_768_1 (W : FVec Ideal S2x768 .f32) (j : Fin 768) :
    (shapeCast S768 (extractStridedSlice S1x768 ![1, 0] W slices_S2x768_S1x768_1_0 : FVec Ideal S1x768 .f32)
      shapeCasts_S1x768_S768 : FVec Ideal S768 .f32) (ix1 j) = W (ix2 1 j) := by
  pointwise

/-- Row 0 of 3 rows of 768. -/
theorem pick_3_768_0 (W : FVec Ideal S3x768 .f32) (j : Fin 768) :
    (shapeCast S768 (extractStridedSlice S1x768 ![0, 0] W slices_S3x768_S1x768_0_0 : FVec Ideal S1x768 .f32)
      shapeCasts_S1x768_S768 : FVec Ideal S768 .f32) (ix1 j) = W (ix2 0 j) := by
  pointwise

/-- Row 1 of 3 rows of 768. -/
theorem pick_3_768_1 (W : FVec Ideal S3x768 .f32) (j : Fin 768) :
    (shapeCast S768 (extractStridedSlice S1x768 ![1, 0] W slices_S3x768_S1x768_1_0 : FVec Ideal S1x768 .f32)
      shapeCasts_S1x768_S768 : FVec Ideal S768 .f32) (ix1 j) = W (ix2 1 j) := by
  pointwise

/-- Row 0 of 3 rows of 2304. -/
theorem pick_3_2304_0 (W : FVec Ideal S3x2304 .f32) (j : Fin 2304) :
    (shapeCast S2304 (extractStridedSlice S1x2304 ![0, 0] W slices_S3x2304_S1x2304_0_0 : FVec Ideal S1x2304 .f32)
      shapeCasts_S1x2304_S2304 : FVec Ideal S2304 .f32) (ix1 j) = W (ix2 0 j) := by
  pointwise

/-- Row 1 of 3 rows of 2304. -/
theorem pick_3_2304_1 (W : FVec Ideal S3x2304 .f32) (j : Fin 2304) :
    (shapeCast S2304 (extractStridedSlice S1x2304 ![1, 0] W slices_S3x2304_S1x2304_1_0 : FVec Ideal S1x2304 .f32)
      shapeCasts_S1x2304_S2304 : FVec Ideal S2304 .f32) (ix1 j) = W (ix2 1 j) := by
  pointwise

/-- Plane 0 of 2 planes of 768 by 1536. -/
theorem mat_2_768_1536_0 (W : FVec Ideal S2x768x1536 .f32) :
    mat (shapeCast S768x1536 (extractStridedSlice S1x768x1536 ![0, 0, 0] W slices_S2x768x1536_S1x768x1536_0_0_0
      : FVec Ideal S1x768x1536 .f32) shapeCasts_S1x768x1536_S768x1536 : FVec Ideal S768x1536 .f32) = fun p q => W (ix3 0 p q) := by
  funext p q
  unfold mat
  pointwise

/-- Plane 1 of 2 planes of 768 by 1536. -/
theorem mat_2_768_1536_1 (W : FVec Ideal S2x768x1536 .f32) :
    mat (shapeCast S768x1536 (extractStridedSlice S1x768x1536 ![1, 0, 0] W slices_S2x768x1536_S1x768x1536_1_0_0
      : FVec Ideal S1x768x1536 .f32) shapeCasts_S1x768x1536_S768x1536 : FVec Ideal S768x1536 .f32) = fun p q => W (ix3 1 p q) := by
  funext p q
  unfold mat
  pointwise

/-- Plane 0 of 2 planes of 768 by 768. -/
theorem mat_2_768_768_0 (W : FVec Ideal S2x768x768 .f32) :
    mat (shapeCast S768x768 (extractStridedSlice S1x768x768 ![0, 0, 0] W slices_S2x768x768_S1x768x768_0_0_0
      : FVec Ideal S1x768x768 .f32) shapeCasts_S1x768x768_S768x768 : FVec Ideal S768x768 .f32) = fun p q => W (ix3 0 p q) := by
  funext p q
  unfold mat
  pointwise

/-- Plane 1 of 2 planes of 768 by 768. -/
theorem mat_2_768_768_1 (W : FVec Ideal S2x768x768 .f32) :
    mat (shapeCast S768x768 (extractStridedSlice S1x768x768 ![1, 0, 0] W slices_S2x768x768_S1x768x768_1_0_0
      : FVec Ideal S1x768x768 .f32) shapeCasts_S1x768x768_S768x768 : FVec Ideal S768x768 .f32) = fun p q => W (ix3 1 p q) := by
  funext p q
  unfold mat
  pointwise

/-- Plane 0 of 3 planes of 768 by 2304. -/
theorem mat_3_768_2304_0 (W : FVec Ideal S3x768x2304 .f32) :
    mat (shapeCast S768x2304 (extractStridedSlice S1x768x2304 ![0, 0, 0] W slices_S3x768x2304_S1x768x2304_0_0_0
      : FVec Ideal S1x768x2304 .f32) shapeCasts_S1x768x2304_S768x2304 : FVec Ideal S768x2304 .f32) = fun p q => W (ix3 0 p q) := by
  funext p q
  unfold mat
  pointwise

/-- Plane 1 of 3 planes of 768 by 2304. -/
theorem mat_3_768_2304_1 (W : FVec Ideal S3x768x2304 .f32) :
    mat (shapeCast S768x2304 (extractStridedSlice S1x768x2304 ![1, 0, 0] W slices_S3x768x2304_S1x768x2304_1_0_0
      : FVec Ideal S1x768x2304 .f32) shapeCasts_S1x768x2304_S768x2304 : FVec Ideal S768x2304 .f32) = fun p q => W (ix3 1 p q) := by
  funext p q
  unfold mat
  pointwise

/-- Plane 0 of 3 planes of 2304 by 768. -/
theorem mat_3_2304_768_0 (W : FVec Ideal S3x2304x768 .f32) :
    mat (shapeCast S2304x768 (extractStridedSlice S1x2304x768 ![0, 0, 0] W slices_S3x2304x768_S1x2304x768_0_0_0
      : FVec Ideal S1x2304x768 .f32) shapeCasts_S1x2304x768_S2304x768 : FVec Ideal S2304x768 .f32) = fun p q => W (ix3 0 p q) := by
  funext p q
  unfold mat
  pointwise

/-- Plane 1 of 3 planes of 2304 by 768. -/
theorem mat_3_2304_768_1 (W : FVec Ideal S3x2304x768 .f32) :
    mat (shapeCast S2304x768 (extractStridedSlice S1x2304x768 ![1, 0, 0] W slices_S3x2304x768_S1x2304x768_1_0_0
      : FVec Ideal S1x2304x768 .f32) shapeCasts_S1x2304x768_S2304x768 : FVec Ideal S2304x768 .f32) = fun p q => W (ix3 1 p q) := by
  funext p q
  unfold mat
  pointwise

/-- The complement of a mask. -/
theorem vec_compl (b : FVec Ideal S1x768 .f32) :
    vec (subf (broadcastInDim S1x768 ![] bcast_S_S1x768 (constant S_ .f32 0x3F800000#32) : FVec Ideal S1x768 .f32) b)
      = compl (vec b) := by
  funext j
  unfold vec compl
  pointwise

/-- The step size. -/
theorem eps_eq (l : FVec Ideal S1 .f32) :
    Host.divf (Host.exp l) (broadcastInDim S1 ![] bcast_S_S1 (constant S_ .f32 0x40800000#32) : FVec Ideal S1 .f32) (ix1 0)
      = eps (l (ix1 0)) := by
  unfold eps
  pointwise
  try rfl

end Cert.Flow.R

end
-- ==== Proof.RefValue.lean ====
/-
  What the reference computes: its two results, chain by chain, are the flow's.
-/
module

public import proofs.«01_k».proof.Proof.RefRow
public import proofs.«01_k».proof.Proof.Whole

@[expose] public section

set_option maxRecDepth 16384

noncomputable section

namespace Cert.Flow.R

open Idealize.ShloMosaic Idealize.SL.Sem Cert.ReferenceIdeal Cert.ReferenceIdeal.Gen Cert.ReferenceIdeal.Value

/-! ## Its two networks and its half step, as functions of arrays -/

/-- An affine layer of width 768. -/
def layer (a : FVec Ideal S2048x768 .f32) (W : FVec Ideal S768x768 .f32) (b : FVec Ideal S1x768 .f32) :
    FVec Ideal S2048x768 .f32 :=
  addf (Host.dotGeneral dot_S2048x768_S768x768_S2048x768_1_0_0_1_n_n none a
    (transpose S768x768 [1, 0] W transposes_S768x768_S768x768_1_0 : FVec Ideal S768x768 .f32))
    (broadcastInDim S2048x768 ![0, 1] bcast_S1x768_S2048x768_0_1 b : FVec Ideal S2048x768 .f32)

/-- The maximum with zero. -/
def rect (a : FVec Ideal S2048x768 .f32) : FVec Ideal S2048x768 .f32 :=
  maximumf a (broadcastInDim S2048x768 ![] bcast_S_S2048x768 (constant S_ .f32 0x00000000#32) : FVec Ideal S2048x768 .f32)

/-- One row repeated down the array. -/
def spread (b : FVec Ideal S1x768 .f32) : FVec Ideal S2048x768 .f32 :=
  broadcastInDim S2048x768 ![0, 1] bcast_S1x768_S2048x768_0_1 b

/-- One number everywhere. -/
def fill (e : FVec Ideal S1 .f32) : FVec Ideal S2048x768 .f32 :=
  broadcastInDim S2048x768 ![0, 1] bcast_S1x1_S2048x768_0_1 (broadcastInDim S1x1 ![1] bcast_S1_S1x1_1 e : FVec Ideal S1x1 .f32)

/-- The force network, on `x` and the active half of `v`. -/
def force (x va : FVec Ideal S2048x768 .f32) (W1 : FVec Ideal S768x1536 .f32) (b1 : FVec Ideal S1x768 .f32)
    (W2 : FVec Ideal S768x768 .f32) (b2 : FVec Ideal S1x768 .f32) (W3 : FVec Ideal S768x768 .f32)
    (b3 : FVec Ideal S1x768 .f32) (W4 : FVec Ideal S768x768 .f32) (b4 : FVec Ideal S1x768 .f32)
    (W5 : FVec Ideal S768x768 .f32) (b5 : FVec Ideal S1x768 .f32) : FVec Ideal S2048x768 .f32 :=
  layer (rect (layer (rect (layer (rect (layer (rect (addf
    (Host.dotGeneral dot_S2048x1536_S1536x768_S2048x768_1_0_0_1_n_n none
      (concatenate S2048x1536 1 [⟨S2048x768, x⟩, ⟨S2048x768, va⟩] concatenates_S2048x768_S2048x768_S2048x1536_d1
        : FVec Ideal S2048x1536 .f32)
      (transpose S1536x768 [1, 0] W1 transposes_S768x1536_S1536x768_1_0 : FVec Ideal S1536x768 .f32))
    (spread b1))) W2 b2)) W3 b3)) W4 b4)) W5 b5

/-- The scale-and-shift network, on `x`, the active half of `v` and the force. -/
def sqt (x va g : FVec Ideal S2048x768 .f32) (W1 : FVec Ideal S768x2304 .f32) (b1 : FVec Ideal S1x768 .f32)
    (W2 : FVec Ideal S768x768 .f32) (b2 : FVec Ideal S1x768 .f32) (W3 : FVec Ideal S768x768 .f32)
    (b3 : FVec Ideal S1x768 .f32) (W4 : FVec Ideal S768x768 .f32) (b4 : FVec Ideal S1x768 .f32)
    (W5 : FVec Ideal S2304x768 .f32) (b5 : FVec Ideal S1x2304 .f32) : FVec Ideal S2048x2304 .f32 :=
  addf (Host.dotGeneral dot_S2048x768_S768x2304_S2048x2304_1_0_0_1_n_n none
    (Host.tanh (layer (rect (layer (rect (layer (rect (addf
      (Host.dotGeneral dot_S2048x2304_S2304x768_S2048x768_1_0_0_1_n_n none
        (concatenate S2048x2304 1 [⟨S2048x768, x⟩, ⟨S2048x768, va⟩, ⟨S2048x768, g⟩]
          concatenates_S2048x768_S2048x768_S2048x768_S2048x2304_d1 : FVec Ideal S2048x2304 .f32)
        (transpose S2304x768 [1, 0] W1 transposes_S768x2304_S2304x768_1_0 : FVec Ideal S2304x768 .f32))
      (spread b1))) W2 b2)) W3 b3)) W4 b4))
    (transpose S768x2304 [1, 0] W5 transposes_S2304x768_S768x2304_1_0 : FVec Ideal S768x2304 .f32))
    (broadcastInDim S2048x2304 ![0, 1] bcast_S1x2304_S2048x2304_0_1 b5 : FVec Ideal S2048x2304 .f32)

/-- The first third of the scale-and-shift network's columns: the log scale of `v`. -/
def scale (out : FVec Ideal S2048x2304 .f32) : FVec Ideal S2048x768 .f32 :=
  extractStridedSlice S2048x768 ![0, 0] out slices_S2048x2304_S2048x768_0_0

/-- Half a step's new `v`. -/
def half (act upd : FVec Ideal S1x768 .f32) (e : FVec Ideal S1 .f32) (v g : FVec Ideal S2048x768 .f32)
    (out : FVec Ideal S2048x2304 .f32) : FVec Ideal S2048x768 .f32 :=
  addf (mulf (spread act) v) (mulf (spread upd) (subf (mulf v (Host.exp (scale out)))
    (mulf (fill e)
      (addf (mulf g (Host.exp (extractStridedSlice S2048x768 ![0, 768] out slices_S2048x2304_S2048x768_0_768
          : FVec Ideal S2048x768 .f32)))
        (extractStridedSlice S2048x768 ![0, 1536] out slices_S2048x2304_S2048x768_0_1536 : FVec Ideal S2048x768 .f32)))))

/-- Half a step's log determinants. -/
def det (upd : FVec Ideal S1x768 .f32) (out : FVec Ideal S2048x2304 .f32) : FVec Ideal S2048 .f32 :=
  Host.reduceAdd (mulf (spread upd) (scale out)) (constant S_ .f32 0x00000000#32) reducesTo_S2048x768_S2048_d1 h_S_

/-! ## The same, one row at a time -/

/-- A row of an affine layer is the layer of the row. -/
theorem row_layer' (a : FVec Ideal S2048x768 .f32) (W : FVec Ideal S768x768 .f32) (b : FVec Ideal S1x768 .f32)
    (r : Fin 2048) : row (layer a W b) r = dense (mat W) (vec b) (row a r) := row_layer a W b r

/-- A row of the positive part is the positive part of the row. -/
theorem row_rect (a : FVec Ideal S2048x768 .f32) (r : Fin 2048) : row (rect a) r = relu (row a r) := row_relu a r

/-- A row of a vector spread over the batch is the vector. -/
theorem row_spread' (b : FVec Ideal S1x768 .f32) (r : Fin 2048) : row (spread b) r = vec b := row_spread b r

/-- A row of a spread scalar is that scalar throughout. -/
theorem row_fill' (e : FVec Ideal S1 .f32) (r : Fin 2048) : row (fill e) r = fun _ => e (ix1 0) := row_fill e r

section Row

variable (N : Net) (r : Fin 2048)

/-- The force network with `N`'s weights. -/
theorem row_force {x va : FVec Ideal S2048x768 .f32} {W1 : FVec Ideal S768x1536 .f32} {W2 W3 W4 W5 : FVec Ideal S768x768 .f32}
    {b1 b2 b3 b4 b5 : FVec Ideal S1x768 .f32} {xr var : Fin 768 → EReal} (hx : row x r = xr) (hv : row va r = var)
    (hW1 : mat W1 = N.rW1) (hb1 : vec b1 = N.rb1) (hW2 : mat W2 = N.rW2) (hb2 : vec b2 = N.rb2)
    (hW3 : mat W3 = N.rW3) (hb3 : vec b3 = N.rb3) (hW4 : mat W4 = N.rW4) (hb4 : vec b4 = N.rb4)
    (hW5 : mat W5 = N.rW5) (hb5 : vec b5 = N.rb5) :
    row (force x va W1 b1 W2 b2 W3 b3 W4 b4 W5 b5) r = N.force xr var := by
  unfold force spread
  rw [row_layer', row_rect, row_layer', row_rect, row_layer', row_rect, row_layer', row_rect, row_layer2, row_cat2, hx, hv,
    hW1, hb1, hW2, hb2, hW3, hb3, hW4, hb4, hW5, hb5]
  rfl

/-- The scale-and-shift network with `N`'s weights. -/
theorem row_sqt {x va g : FVec Ideal S2048x768 .f32} {W1 : FVec Ideal S768x2304 .f32} {W2 W3 W4 : FVec Ideal S768x768 .f32}
    {W5 : FVec Ideal S2304x768 .f32} {b1 b2 b3 b4 : FVec Ideal S1x768 .f32} {b5 : FVec Ideal S1x2304 .f32} {xr var gr : Fin 768 → EReal} (hx : row x r = xr)
    (hv : row va r = var) (hg : row g r = gr)
    (hW1 : mat W1 = N.vW1) (hb1 : vec b1 = N.vb1) (hW2 : mat W2 = N.vW2) (hb2 : vec b2 = N.vb2)
    (hW3 : mat W3 = N.vW3) (hb3 : vec b3 = N.vb3) (hW4 : mat W4 = N.vW4) (hb4 : vec b4 = N.vb4)
    (hW5 : mat W5 = N.vW5) (hb5 : vec b5 = N.vb5) :
    row (sqt x va g W1 b1 W2 b2 W3 b3 W4 b4 W5 b5) r = N.sqt xr var gr := by
  unfold sqt spread
  rw [row_wide, row_tanh, row_layer', row_rect, row_layer', row_rect, row_layer', row_rect, row_layer3, row_cat3, hx, hv, hg,
    hW1, hb1, hW2, hb2, hW3, hb3, hW4, hb4, hW5, hb5]
  rfl

variable {N r} {act upd : FVec Ideal S1x768 .f32} {e : FVec Ideal S1 .f32} {v g : FVec Ideal S2048x768 .f32}
  {out : FVec Ideal S2048x2304 .f32} {m m' xr vr : Fin 768 → EReal} {l : EReal}

/-- The masked rows. -/
theorem row_masked (hact : vec act = m) (hv : row v r = vr) : row (mulf (spread act) v) r = masked m vr := by
  simp only [row_mul, row_spread', hact, hv]
  rfl

/-- Half a step. -/
theorem row_half (hact : vec act = m) (hupd : vec upd = m') (he : e (ix1 0) = l) (hv : row v r = vr)
    (hg : row g r = N.force xr (masked m vr)) (hout : row out r = N.out m xr vr) :
    row (half act upd e v g out) r = N.halfV l m m' xr vr := by
  unfold half scale
  simp only [row_add, row_mul, row_sub, row_exp, row_spread', row_fill', row_slice0, row_slice1, row_slice2, hact, hupd, he, hv,
    hg, hout]
  rfl

/-- Half a step's log determinant. -/
theorem det_eq (hupd : vec upd = m') (hout : row out r = N.out m xr vr) :
    det upd out (ix1 r) = N.halfD m m' xr vr := by
  unfold det scale
  refine (row_sum _ r).trans ?_
  simp only [row_mul, row_spread', row_slice0, hupd, hout]
  rfl

end Row

/-! ## The weights, as the reference slices them -/

/-- Row 0 of a 2 × 768 array, sliced out and reshaped to a vector, is that row. -/
theorem vec_2_768_0 (W : FVec Ideal S2x768 .f32) :
    vec (broadcastInDim S1x768 ![1] bcast_S768_S1x768_1 (shapeCast S768 (extractStridedSlice S1x768 ![0, 0] W
      slices_S2x768_S1x768_0_0 : FVec Ideal S1x768 .f32) shapeCasts_S1x768_S768 : FVec Ideal S768 .f32)
      : FVec Ideal S1x768 .f32) = fun j => W (ix2 0 j) :=
  (vec_row _).trans (funext fun j => pick_2_768_0 W j)

/-- Row 1 of a 2 × 768 array, sliced out and reshaped to a vector, is that row. -/
theorem vec_2_768_1 (W : FVec Ideal S2x768 .f32) :
    vec (broadcastInDim S1x768 ![1] bcast_S768_S1x768_1 (shapeCast S768 (extractStridedSlice S1x768 ![1, 0] W
      slices_S2x768_S1x768_1_0 : FVec Ideal S1x768 .f32) shapeCasts_S1x768_S768 : FVec Ideal S768 .f32)
      : FVec Ideal S1x768 .f32) = fun j => W (ix2 1 j) :=
  (vec_row _).trans (funext fun j => pick_2_768_1 W j)

/-- Row 0 of a 3 × 768 array, sliced out and reshaped to a vector, is that row. -/
theorem vec_3_768_0 (W : FVec Ideal S3x768 .f32) :
    vec (broadcastInDim S1x768 ![1] bcast_S768_S1x768_1 (shapeCast S768 (extractStridedSlice S1x768 ![0, 0] W
      slices_S3x768_S1x768_0_0 : FVec Ideal S1x768 .f32) shapeCasts_S1x768_S768 : FVec Ideal S768 .f32)
      : FVec Ideal S1x768 .f32) = fun j => W (ix2 0 j) :=
  (vec_row _).trans (funext fun j => pick_3_768_0 W j)

/-- Row 1 of a 3 × 768 array, sliced out and reshaped to a vector, is that row. -/
theorem vec_3_768_1 (W : FVec Ideal S3x768 .f32) :
    vec (broadcastInDim S1x768 ![1] bcast_S768_S1x768_1 (shapeCast S768 (extractStridedSlice S1x768 ![1, 0] W
      slices_S3x768_S1x768_1_0 : FVec Ideal S1x768 .f32) shapeCasts_S1x768_S768 : FVec Ideal S768 .f32)
      : FVec Ideal S1x768 .f32) = fun j => W (ix2 1 j) :=
  (vec_row _).trans (funext fun j => pick_3_768_1 W j)

/-- Row 0 of a 3 × 2304 array, sliced out and reshaped to a vector, is that row. -/
theorem vec_3_2304_0 (W : FVec Ideal S3x2304 .f32) :
    vec (broadcastInDim S1x2304 ![1] bcast_S2304_S1x2304_1 (shapeCast S2304 (extractStridedSlice S1x2304 ![0, 0] W
      slices_S3x2304_S1x2304_0_0 : FVec Ideal S1x2304 .f32) shapeCasts_S1x2304_S2304 : FVec Ideal S2304 .f32)
      : FVec Ideal S1x2304 .f32) = fun j => W (ix2 0 j) :=
  (vec_roww _).trans (funext fun j => pick_3_2304_0 W j)

/-- Row 1 of a 3 × 2304 array, sliced out and reshaped to a vector, is that row. -/
theorem vec_3_2304_1 (W : FVec Ideal S3x2304 .f32) :
    vec (broadcastInDim S1x2304 ![1] bcast_S2304_S1x2304_1 (shapeCast S2304 (extractStridedSlice S1x2304 ![1, 0] W
      slices_S3x2304_S1x2304_1_0 : FVec Ideal S1x2304 .f32) shapeCasts_S1x2304_S2304 : FVec Ideal S2304 .f32)
      : FVec Ideal S1x2304 .f32) = fun j => W (ix2 1 j) :=
  (vec_roww _).trans (funext fun j => pick_3_2304_1 W j)

/-! ## The reference's values -/

variable (V0 : Valuation τ sig (Elt Ideal)) (r : Fin 2048)

/-- The reference's argument arrays, read. -/
def args : Args := argsOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23))

/-- The step size. -/
theorem val2 : (res_main_v2 V0 : FVec Ideal S1 .f32) (ix1 0) = eps (args V0).le := eps_eq _

/-- The first step's mask, and the second's. -/
theorem val6 : vec (res_main_v6 V0) = (args V0).mask 0 := vec_2_768_0 _
/-- A row of the reference's value 213. -/
theorem val213 : vec (res_main_v213 V0) = (args V0).mask 1 := vec_2_768_1 _

/-- Their complements. -/
theorem val8 : vec (res_main_v8 V0) = compl ((args V0).mask 0) := (vec_compl _).trans (congrArg compl (val6 V0))
/-- A row of the reference's value 215. -/
theorem val215 : vec (res_main_v215 V0) = compl ((args V0).mask 1) := (vec_compl _).trans (congrArg compl (val213 V0))

/-- First step, first half: the force. -/
theorem val48 : row (res_main_v48 V0) r = ((args V0).net 0).force ((args V0).x r) (masked ((args V0).mask 0) ((args V0).v r)) :=
  row_force (x := V0 (Proc.devRef .tc main_arg0)) ((args V0).net 0) r rfl (row_masked (val6 V0) rfl) (mat_2_768_1536_0 _) (vec_2_768_0 _) rfl (vec_row _) rfl (vec_row _)
    rfl (vec_row _) (mat_2_768_768_0 _) (vec_2_768_0 _)

/-- First step, first half: the scales and the shift. -/
theorem val88 : row (res_main_v88 V0) r = ((args V0).net 0).out ((args V0).mask 0) ((args V0).x r) ((args V0).v r) :=
  row_sqt (x := V0 (Proc.devRef .tc main_arg0)) ((args V0).net 0) r rfl (row_masked (val6 V0) rfl) (val48 V0 r) (mat_3_768_2304_0 _) (vec_3_768_0 _) rfl (vec_row _) rfl (vec_row _)
    rfl (vec_row _) (mat_3_2304_768_0 _) (vec_3_2304_0 _)

/-- First step, first half: the new velocities. -/
theorem val105 : row (res_main_v105 V0) r = ((args V0).net 0).halfV (eps (args V0).le) ((args V0).mask 0) (compl ((args V0).mask 0)) ((args V0).x r) ((args V0).v r) :=
  row_half (val6 V0) (val8 V0) (val2 V0) rfl (val48 V0 r) (val88 V0 r)

/-- First step, second half: the force. -/
theorem val149 : row (res_main_v149 V0) r = ((args V0).net 0).force ((args V0).x r) (masked (compl ((args V0).mask 0)) (((args V0).net 0).halfV (eps (args V0).le) ((args V0).mask 0) (compl ((args V0).mask 0)) ((args V0).x r) ((args V0).v r))) :=
  row_force (x := V0 (Proc.devRef .tc main_arg0)) ((args V0).net 0) r rfl (row_masked (val8 V0) (val105 V0 r)) (mat_2_768_1536_0 _) (vec_2_768_0 _) rfl (vec_row _) rfl (vec_row _)
    rfl (vec_row _) (mat_2_768_768_0 _) (vec_2_768_0 _)

/-- First step, second half: the scales and the shift. -/
theorem val189 : row (res_main_v189 V0) r = ((args V0).net 0).out (compl ((args V0).mask 0)) ((args V0).x r) (((args V0).net 0).halfV (eps (args V0).le) ((args V0).mask 0) (compl ((args V0).mask 0)) ((args V0).x r) ((args V0).v r)) :=
  row_sqt (x := V0 (Proc.devRef .tc main_arg0)) ((args V0).net 0) r rfl (row_masked (val8 V0) (val105 V0 r)) (val149 V0 r) (mat_3_768_2304_0 _) (vec_3_768_0 _) rfl (vec_row _) rfl (vec_row _)
    rfl (vec_row _) (mat_3_2304_768_0 _) (vec_3_2304_0 _)

/-- First step, second half: the new velocities. -/
theorem val206 : row (res_main_v206 V0) r = ((args V0).net 0).halfV (eps (args V0).le) (compl ((args V0).mask 0)) ((args V0).mask 0) ((args V0).x r) (((args V0).net 0).halfV (eps (args V0).le) ((args V0).mask 0) (compl ((args V0).mask 0)) ((args V0).x r) ((args V0).v r)) :=
  row_half (val8 V0) (val6 V0) (val2 V0) (val105 V0 r) (val149 V0 r) (val189 V0 r)

/-- Second step, first half: the force. -/
theorem val255 : row (res_main_v255 V0) r = ((args V0).net 1).force ((args V0).x r) (masked ((args V0).mask 1) ((args V0).v1 r)) :=
  row_force (x := V0 (Proc.devRef .tc main_arg0)) ((args V0).net 1) r rfl (row_masked (val213 V0) (val206 V0 r)) (mat_2_768_1536_1 _) (vec_2_768_1 _) rfl (vec_row _) rfl (vec_row _)
    rfl (vec_row _) (mat_2_768_768_1 _) (vec_2_768_1 _)

/-- Second step, first half: the scales and the shift. -/
theorem val295 : row (res_main_v295 V0) r = ((args V0).net 1).out ((args V0).mask 1) ((args V0).x r) ((args V0).v1 r) :=
  row_sqt (x := V0 (Proc.devRef .tc main_arg0)) ((args V0).net 1) r rfl (row_masked (val213 V0) (val206 V0 r)) (val255 V0 r) (mat_3_768_2304_1 _) (vec_3_768_1 _) rfl (vec_row _) rfl (vec_row _)
    rfl (vec_row _) (mat_3_2304_768_1 _) (vec_3_2304_1 _)

/-- Second step, first half: the new velocities. -/
theorem val312 : row (res_main_v312 V0) r = ((args V0).net 1).halfV (eps (args V0).le) ((args V0).mask 1) (compl ((args V0).mask 1)) ((args V0).x r) ((args V0).v1 r) :=
  row_half (val213 V0) (val215 V0) (val2 V0) (val206 V0 r) (val255 V0 r) (val295 V0 r)

/-- Second step, second half: the force. -/
theorem val356 : row (res_main_v356 V0) r = ((args V0).net 1).force ((args V0).x r) (masked (compl ((args V0).mask 1)) (((args V0).net 1).halfV (eps (args V0).le) ((args V0).mask 1) (compl ((args V0).mask 1)) ((args V0).x r) ((args V0).v1 r))) :=
  row_force (x := V0 (Proc.devRef .tc main_arg0)) ((args V0).net 1) r rfl (row_masked (val215 V0) (val312 V0 r)) (mat_2_768_1536_1 _) (vec_2_768_1 _) rfl (vec_row _) rfl (vec_row _)
    rfl (vec_row _) (mat_2_768_768_1 _) (vec_2_768_1 _)

/-- Second step, second half: the scales and the shift. -/
theorem val396 : row (res_main_v396 V0) r = ((args V0).net 1).out (compl ((args V0).mask 1)) ((args V0).x r) (((args V0).net 1).halfV (eps (args V0).le) ((args V0).mask 1) (compl ((args V0).mask 1)) ((args V0).x r) ((args V0).v1 r)) :=
  row_sqt (x := V0 (Proc.devRef .tc main_arg0)) ((args V0).net 1) r rfl (row_masked (val215 V0) (val312 V0 r)) (val356 V0 r) (mat_3_768_2304_1 _) (vec_3_768_1 _) rfl (vec_row _) rfl (vec_row _)
    rfl (vec_row _) (mat_3_2304_768_1 _) (vec_3_2304_1 _)

/-- Second step, second half: the new velocities. -/
theorem val413 : row (half (res_main_v215 V0) (res_main_v213 V0) (res_main_v2 V0) (res_main_v312 V0) (res_main_v356 V0) (res_main_v396 V0)) r = ((args V0).net 1).halfV (eps (args V0).le) (compl ((args V0).mask 1)) ((args V0).mask 1) ((args V0).x r) (((args V0).net 1).halfV (eps (args V0).le) ((args V0).mask 1) (compl ((args V0).mask 1)) ((args V0).x r) ((args V0).v1 r)) :=
  row_half (val215 V0) (val213 V0) (val2 V0) (val312 V0 r) (val356 V0 r) (val396 V0 r)

/-- The first result: every chain's velocities after both steps. -/
theorem result0 : half (res_main_v215 V0) (res_main_v213 V0) (res_main_v2 V0) (res_main_v312 V0) (res_main_v356 V0)
    (res_main_v396 V0) = fun i : S2048x768.Idx => (args V0).v2 (i 0) (i 1) := by
  funext i
  rw [eq_ix2 i]
  exact congrFun (val413 V0 (i 0)) (i 1)

/-- The second result: every chain's log determinant after both steps. -/
theorem result1 : addf (addf (addf (addf (broadcastInDim S2048 ![] bcast_S_S2048 (constant S_ .f32 0x00000000#32) : FVec Ideal S2048 .f32)
      (det (res_main_v8 V0) (res_main_v88 V0))) (det (res_main_v6 V0) (res_main_v189 V0)))
      (det (res_main_v215 V0) (res_main_v295 V0))) (det (res_main_v213 V0) (res_main_v396 V0))
    = fun i : S2048.Idx => (args V0).s2 (i 0) := by
  funext i
  obtain ⟨r, rfl⟩ : ∃ r, i = ix1 r := ⟨i 0, eq_ix1 i⟩
  have h0 : (broadcastInDim S2048 ![] bcast_S_S2048 (constant S_ .f32 0x00000000#32) : FVec Ideal S2048 .f32) (ix1 r) = 0 := by
    pointwise
  refine (congrArg₂ (· + ·) (congrArg₂ (· + ·) (congrArg₂ (· + ·) (congrArg₂ (· + ·) h0
    (det_eq (val8 V0) (val88 V0 r))) (det_eq (val6 V0) (val189 V0 r))) (det_eq (val215 V0) (val295 V0 r)))
    (det_eq (val213 V0) (val396 V0 r))).trans ?_
  rfl

end Cert.Flow.R

end
-- ==== Proof.RefRun.lean ====
/-
  The reference's run: from any memory it ends with every chain's velocities and log determinant after both steps.
-/
module

public import proofs.«01_k».proof.Proof.RefValue
public import Idealize.ShloMosaic.Lib.Quiescent

@[expose] public section

set_option maxRecDepth 16384

noncomputable section

namespace Cert.Flow.R

open Idealize.ShloMosaic Idealize.ShloMosaic.TcCoe Idealize.SL.Sem Cert.ReferenceIdeal Cert.ReferenceIdeal.Gen
open Idealize.ShloMosaic.StableHlo (launchContents)

variable (m : (ℓ : Loc nD τ sig) → Buf (Elt Ideal) ℓ) (ρ : Dev nD → PrngReg)

/-- The reference, from any memory: every weakly fair execution ends with both results as the flow gives them and the
    arguments unchanged. -/
theorem run : θ_run defs (onTc (τ := τ) (main (F := Ideal))) ⟨m, fun _ => 0, ρ⟩ (fun r => ∀ c : Dev nD,
    r.2.mem ((c.tc : Thread nD τ).loc main_v413) = (fun i : S2048x768.Idx => (args (launchContents m c)).v2 (i 0) (i 1))
    ∧ r.2.mem ((c.tc : Thread nD τ).loc main_v417) = (fun i : S2048.Idx => (args (launchContents m c)).s2 (i 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)) :=
  (θ_run defs _ _).mono (fun _ h c => ⟨(h c).1.trans (result0 (launchContents m c)),
    (h c).2.1.trans (result1 (launchContents m c)), (h c).2.2⟩) (Value.run m ρ)

/-- The reference has no semaphore. -/
theorem sem_zero (s : MemSt nD τ sig (Elt Ideal)) : s.sem = fun _ => 0 := sem_eq_zero_of_no_sems (by decide) s

end Cert.Flow.R

end
-- ==== Proof.lean ====
/-
  The claim: neither program of the kernel nor the reference changes an argument or leaves a semaphore counter raised;
  the kernel's idealization is the kernel's own text; and at the extended reals the kernel and the reference, from memories
  that agree on the arguments, end with equal results, since each ends with the flow's velocities and log determinants.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BitsRun
public import proofs.«01_k».proof.Proof.KernelRun
public import proofs.«01_k».proof.Proof.RefRun

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts

/-- The kernel at the device's floats changes no argument. -/
theorem kernel_frame : Cert.quiescent_Kernel := fun m g _ => Cert.Kernel.Gen.frame m g

/-- The kernel at the extended reals changes no argument. -/
theorem ideal_frame : Cert.quiescent_KernelIdeal := fun m g _ => Cert.KernelIdeal.Gen.frame m g

/-- The reference changes no argument. -/
theorem reference_frame : Cert.quiescent_ReferenceIdeal := fun m g _ =>
  θ_run_mono (Cert.ReferenceIdeal.Value.run m g) fun r h => ⟨fun c => (h c).2.2, Cert.Flow.R.sem_zero r.2⟩

/-- The kernel and the reference end with equal results. -/
theorem equal : Cert.algebraic_KernelIdeal_ReferenceIdeal := by
  intro m g m' g' _ hagree
  have hargs : ∀ c, Cert.Flow.R.args (StableHlo.launchContents m' c) = Cert.Flow.K.args m c := by
    intro c
    obtain ⟨h0, h1, h2, h3, h4, h5, h6, h7, h8, h9, h10, h11, h12, h13, h14, h15, h16, h17, h18, h19, h20, h21, h22, h23⟩ := hagree c
    unfold Cert.Flow.R.args Cert.Flow.K.args
    show Cert.Flow.argsOf (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))
      (m' ((c.tc : Thread Cert.ReferenceIdeal.nD Cert.ReferenceIdeal.τ).loc Cert.ReferenceIdeal.main_arg23)) = _
    rw [h0, h1, h2, h3, h4, h5, h6, h7, h8, h9, h10, h11, h12, h13, h14, h15, h16, h17, h18, h19, h20, h21, h22, h23]
  refine ⟨fun c => (fun i : Cert.KernelIdeal.S2048x768.Idx => (Cert.Flow.K.args m c).v2 (i 0) (i 1)),
    fun c => (fun i : Cert.KernelIdeal.S2048.Idx => (Cert.Flow.K.args m c).s2 (i 0)), Cert.Flow.K.run m g, ?_⟩
  refine θ_run_mono (Cert.Flow.R.run m' g') fun r h c => ?_
  have hc := h c
  rw [show Cert.Flow.R.args (StableHlo.launchContents m' c) = Cert.Flow.K.args m c from hargs c] at hc
  exact hc

/-- All the claims: the three frames, that the idealization is the kernel's own text, and the equality of the results. -/
theorem claim : Cert.Claim :=
  ⟨Cert.Kernel.Gen.facts, Cert.KernelIdeal.Gen.facts, Cert.ReferenceIdeal.Gen.facts,
    kernel_frame, ideal_frame, reference_frame, trivial, equal⟩

end Cert.Proof

end
